-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_attendable_KernelIdeal [hPre_attendable_KernelIdeal : Cert.Pre_attendable_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_attendable_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_attendable_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_attendable_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_attendable_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_attendable_ReferenceIdeal [hPre_attendable_ReferenceIdeal : Cert.Pre_attendable_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_attendable_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_attendable_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_attendable_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_attendable_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_attendable_KernelIdeal [hKernelIdeal : Cert.KernelIdeal.Facts] [hPre_attendable_KernelIdeal : Cert.Pre_attendable_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_attendable_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_attendable_ReferenceIdeal [hReferenceIdeal : Cert.ReferenceIdeal.Facts] [hPre_attendable_ReferenceIdeal : Cert.Pre_attendable_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_attendable_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_sqrt_d" .f32 0x3DB504F3#32 (((Real.sqrt 128)⁻¹ : ℝ) : EReal)

def algebraic_KernelIdeal_ReferenceIdeal_pre_attendable_KernelIdeal [hKernelIdeal : Cert.KernelIdeal.Facts] [hReferenceIdeal : Cert.ReferenceIdeal.Facts] [hPre_attendable_KernelIdeal : Cert.Pre_attendable_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_attendable_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![512, 16, 8, 128]⟩ ⟨4, ![1024, 16, 8, 128]⟩ (Layout.meshBlock [2, 2, 4] ![[1], [], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![512, 16, 8, 128]⟩ ⟨4, ![1024, 16, 8, 128]⟩ (Layout.meshBlock [2, 2, 4] ![[1], [], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v36) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_attendable_KernelIdeal : Cert.Pre_attendable_KernelIdeal.Facts) (hPre_attendable_ReferenceIdeal : Cert.Pre_attendable_ReferenceIdeal.Facts),
    quiescent_Kernel (hKernel := hKernel)
    ∧ quiescent_KernelIdeal (hKernelIdeal := hKernelIdeal)
    ∧ quiescent_KernelIdeal_pre_attendable_KernelIdeal (hKernelIdeal := hKernelIdeal) (hPre_attendable_KernelIdeal := hPre_attendable_KernelIdeal)
    ∧ quiescent_ReferenceIdeal (hReferenceIdeal := hReferenceIdeal)
    ∧ quiescent_ReferenceIdeal_pre_attendable_ReferenceIdeal (hReferenceIdeal := hReferenceIdeal) (hPre_attendable_ReferenceIdeal := hPre_attendable_ReferenceIdeal)
    ∧ preserves_Kernel_KernelIdeal
    ∧ algebraic_KernelIdeal_ReferenceIdeal_pre_attendable_KernelIdeal (hKernelIdeal := hKernelIdeal) (hReferenceIdeal := hReferenceIdeal) (hPre_attendable_KernelIdeal := hPre_attendable_KernelIdeal)
-- ==== Pre_attendable_KernelIdeal.lean ====
abbrev S8x1x8x128 : Shape := ⟨4, ![8, 1, 8, 128]⟩
abbrev S512x16x8x128 : Shape := ⟨4, ![512, 16, 8, 128]⟩
abbrev S8x512 : Shape := ⟨2, ![8, 512]⟩
abbrev S8 : Shape := ⟨1, ![8]⟩
abbrev S512 : Shape := ⟨1, ![512]⟩
abbrev S1x512 : Shape := ⟨2, ![1, 512]⟩
abbrev S8x1 : Shape := ⟨2, ![8, 1]⟩
abbrev S_ : Shape := ⟨0, ![]⟩

class Facts : Prop where
  bcast_S512_S1x512_1 : S512.BroadcastsInDim S1x512 (![1] : Fin 1 → Fin S1x512.rank)
  bcast_S8_S8x1_0 : S8.BroadcastsInDim S8x1 (![0] : Fin 1 → Fin S8x1.rank)
  bcast_S1x512_S8x512_0_1 : S1x512.BroadcastsInDim S8x512 (![0, 1] : Fin 2 → Fin S8x512.rank)
  bcast_S8x1_S8x512_0_1 : S8x1.BroadcastsInDim S8x512 (![0, 1] : Fin 2 → Fin S8x512.rank)
  bcast_S_S8x1x8x128 : S_.BroadcastsInDim S8x1x8x128 (![] : Fin 0 → Fin S8x1x8x128.rank)
  bcast_S_S512x16x8x128 : S_.BroadcastsInDim S512x16x8x128 (![] : Fin 0 → Fin S512x16x8x128.rank)
  bcast_S_S8 : S_.BroadcastsInDim S8 (![] : Fin 0 → Fin S8.rank)
  bcast_S_S8x512 : S_.BroadcastsInDim S8x512 (![] : Fin 0 → Fin S8x512.rank)

variable [Facts]

def fn_part1 {F : FTy → Type} [FloatOps F] (main_v5 : IVec S8x512 1) (main_v8 : IVec S8x1x8x128 1) (main_v11 : IVec S512x16x8x128 1) (main_v13 : IVec S8 1) (main_v18 : IVec S8x512 1) : IVec S8x1x8x128 1 × IVec S512x16x8x128 1 × IVec S8 1 × IVec S8x512 1 :=
  let main_v19 : IVec S8x512 1 := noti main_v5
  let main_v20 : IVec S8x512 1 := ori main_v18 main_v19
  (main_v8, main_v11, main_v13, main_v20)

def fn {F : FTy → Type} [FloatOps F] (main_arg0 : FVec F S8x1x8x128 .f32) (main_arg1 : FVec F S512x16x8x128 .f32) (main_arg2 : FVec F S512x16x8x128 .f32) (main_arg3 : IVec S8x512 32) (main_arg4 : IVec S8 32) : IVec S8x1x8x128 1 × IVec S512x16x8x128 1 × IVec S8 1 × IVec S8x512 1 :=
  let main_v0 : IVec S512 32 := iotaInDim S512 32 0
  let main_v1 : IVec S1x512 32 := broadcastInDim S1x512 ![1] bcast_S512_S1x512_1 main_v0
  let main_v2 : IVec S8x1 32 := broadcastInDim S8x1 ![0] bcast_S8_S8x1_0 main_arg4
  let main_v3 : IVec S8x512 32 := broadcastInDim S8x512 ![0, 1] bcast_S1x512_S8x512_0_1 main_v1
  let main_v4 : IVec S8x512 32 := broadcastInDim S8x512 ![0, 1] bcast_S8x1_S8x512_0_1 main_v2
  let main_v5 : IVec S8x512 1 := cmpi .slt main_v3 main_v4
  let main_v6 : FVec F S8x1x8x128 .f32 := Host.absf main_arg0
  let main_cst : FVec F S_ .f32 := constant S_ .f32 0x7F800000#32
  let main_v7 : FVec F S8x1x8x128 .f32 := broadcastInDim S8x1x8x128 ![] bcast_S_S8x1x8x128 main_cst
  let main_v8 : IVec S8x1x8x128 1 := cmpf .olt main_v6 main_v7
  let main_v9 : FVec F S512x16x8x128 .f32 := Host.absf main_arg1
  let main_cst_0 : FVec F S_ .f32 := constant S_ .f32 0x7F800000#32
  let main_v10 : FVec F S512x16x8x128 .f32 := broadcastInDim S512x16x8x128 ![] bcast_S_S512x16x8x128 main_cst_0
  let main_v11 : IVec S512x16x8x128 1 := cmpf .olt main_v9 main_v10
  let main_c : IVec S_ 32 := constantI S_ 32 1#32
  let main_v12 : IVec S8 32 := broadcastInDim S8 ![] bcast_S_S8 main_c
  let main_v13 : IVec S8 1 := cmpi .sge main_arg4 main_v12
  let main_c_1 : IVec S_ 32 := constantI S_ 32 0#32
  let main_v14 : IVec S8x512 32 := broadcastInDim S8x512 ![] bcast_S_S8x512 main_c_1
  let main_v15 : IVec S8x512 1 := cmpi .sge main_arg3 main_v14
  let main_c_2 : IVec S_ 32 := constantI S_ 32 1024#32
  let main_v16 : IVec S8x512 32 := broadcastInDim S8x512 ![] bcast_S_S8x512 main_c_2
  let main_v17 : IVec S8x512 1 := cmpi .slt main_arg3 main_v16
  let main_v18 : IVec S8x512 1 := andi main_v15 main_v17
  fn_part1 (F := F) main_v5 main_v8 main_v11 main_v13 main_v18
-- ==== Pre_attendable_ReferenceIdeal.lean ====
abbrev S8x1x8x128 : Shape := ⟨4, ![8, 1, 8, 128]⟩
abbrev S1024x16x8x128 : Shape := ⟨4, ![1024, 16, 8, 128]⟩
abbrev S8x512 : Shape := ⟨2, ![8, 512]⟩
abbrev S8 : Shape := ⟨1, ![8]⟩
abbrev S512 : Shape := ⟨1, ![512]⟩
abbrev S1x512 : Shape := ⟨2, ![1, 512]⟩
abbrev S8x1 : Shape := ⟨2, ![8, 1]⟩
abbrev S_ : Shape := ⟨0, ![]⟩

class Facts : Prop where
  bcast_S512_S1x512_1 : S512.BroadcastsInDim S1x512 (![1] : Fin 1 → Fin S1x512.rank)
  bcast_S8_S8x1_0 : S8.BroadcastsInDim S8x1 (![0] : Fin 1 → Fin S8x1.rank)
  bcast_S1x512_S8x512_0_1 : S1x512.BroadcastsInDim S8x512 (![0, 1] : Fin 2 → Fin S8x512.rank)
  bcast_S8x1_S8x512_0_1 : S8x1.BroadcastsInDim S8x512 (![0, 1] : Fin 2 → Fin S8x512.rank)
  bcast_S_S8x1x8x128 : S_.BroadcastsInDim S8x1x8x128 (![] : Fin 0 → Fin S8x1x8x128.rank)
  bcast_S_S1024x16x8x128 : S_.BroadcastsInDim S1024x16x8x128 (![] : Fin 0 → Fin S1024x16x8x128.rank)
  bcast_S_S8 : S_.BroadcastsInDim S8 (![] : Fin 0 → Fin S8.rank)
  bcast_S_S8x512 : S_.BroadcastsInDim S8x512 (![] : Fin 0 → Fin S8x512.rank)

variable [Facts]

def fn_part1 {F : FTy → Type} [FloatOps F] (main_v5 : IVec S8x512 1) (main_v8 : IVec S8x1x8x128 1) (main_v11 : IVec S1024x16x8x128 1) (main_v13 : IVec S8 1) (main_v18 : IVec S8x512 1) : IVec S8x1x8x128 1 × IVec S1024x16x8x128 1 × IVec S8 1 × IVec S8x512 1 :=
  let main_v19 : IVec S8x512 1 := noti main_v5
  let main_v20 : IVec S8x512 1 := ori main_v18 main_v19
  (main_v8, main_v11, main_v13, main_v20)

def fn {F : FTy → Type} [FloatOps F] (main_arg0 : FVec F S8x1x8x128 .f32) (main_arg1 : FVec F S1024x16x8x128 .f32) (main_arg2 : FVec F S1024x16x8x128 .f32) (main_arg3 : IVec S8x512 32) (main_arg4 : IVec S8 32) : IVec S8x1x8x128 1 × IVec S1024x16x8x128 1 × IVec S8 1 × IVec S8x512 1 :=
  let main_v0 : IVec S512 32 := iotaInDim S512 32 0
  let main_v1 : IVec S1x512 32 := broadcastInDim S1x512 ![1] bcast_S512_S1x512_1 main_v0
  let main_v2 : IVec S8x1 32 := broadcastInDim S8x1 ![0] bcast_S8_S8x1_0 main_arg4
  let main_v3 : IVec S8x512 32 := broadcastInDim S8x512 ![0, 1] bcast_S1x512_S8x512_0_1 main_v1
  let main_v4 : IVec S8x512 32 := broadcastInDim S8x512 ![0, 1] bcast_S8x1_S8x512_0_1 main_v2
  let main_v5 : IVec S8x512 1 := cmpi .slt main_v3 main_v4
  let main_v6 : FVec F S8x1x8x128 .f32 := Host.absf main_arg0
  let main_cst : FVec F S_ .f32 := constant S_ .f32 0x7F800000#32
  let main_v7 : FVec F S8x1x8x128 .f32 := broadcastInDim S8x1x8x128 ![] bcast_S_S8x1x8x128 main_cst
  let main_v8 : IVec S8x1x8x128 1 := cmpf .olt main_v6 main_v7
  let main_v9 : FVec F S1024x16x8x128 .f32 := Host.absf main_arg1
  let main_cst_0 : FVec F S_ .f32 := constant S_ .f32 0x7F800000#32
  let main_v10 : FVec F S1024x16x8x128 .f32 := broadcastInDim S1024x16x8x128 ![] bcast_S_S1024x16x8x128 main_cst_0
  let main_v11 : IVec S1024x16x8x128 1 := cmpf .olt main_v9 main_v10
  let main_c : IVec S_ 32 := constantI S_ 32 1#32
  let main_v12 : IVec S8 32 := broadcastInDim S8 ![] bcast_S_S8 main_c
  let main_v13 : IVec S8 1 := cmpi .sge main_arg4 main_v12
  let main_c_1 : IVec S_ 32 := constantI S_ 32 0#32
  let main_v14 : IVec S8x512 32 := broadcastInDim S8x512 ![] bcast_S_S8x512 main_c_1
  let main_v15 : IVec S8x512 1 := cmpi .sge main_arg3 main_v14
  let main_c_2 : IVec S_ 32 := constantI S_ 32 1024#32
  let main_v16 : IVec S8x512 32 := broadcastInDim S8x512 ![] bcast_S_S8x512 main_c_2
  let main_v17 : IVec S8x512 1 := cmpi .slt main_arg3 main_v16
  let main_v18 : IVec S8x512 1 := andi main_v15 main_v17
  fn_part1 (F := F) main_v5 main_v8 main_v11 main_v13 main_v18
-- ==== Kernel.lean ====
abbrev S8x1x8x128 : Shape := ⟨4, ![8, 1, 8, 128]⟩
abbrev S512x16x8x128 : Shape := ⟨4, ![512, 16, 8, 128]⟩
abbrev S8x512 : Shape := ⟨2, ![8, 512]⟩
abbrev S8 : Shape := ⟨1, ![8]⟩
abbrev S8x1 : Shape := ⟨2, ![8, 1]⟩
abbrev S64x16x8x128 : Shape := ⟨4, ![64, 16, 8, 128]⟩
abbrev S8x8x130 : Shape := ⟨3, ![8, 8, 130]⟩
abbrev S8x8x8x130 : Shape := ⟨4, ![8, 8, 8, 130]⟩
abbrev S2 : Shape := ⟨1, ![2]⟩
abbrev S_ : Shape := ⟨0, ![]⟩
abbrev S7 : Shape := ⟨1, ![7]⟩
abbrev S1 : Shape := ⟨1, ![1]⟩
abbrev S8x512x64 : Shape := ⟨3, ![8, 512, 64]⟩
abbrev S8x512x1 : Shape := ⟨3, ![8, 512, 1]⟩
abbrev S8x64 : Shape := ⟨2, ![8, 64]⟩
abbrev S8x64x1 : Shape := ⟨3, ![8, 64, 1]⟩
abbrev S8x64x16 : Shape := ⟨3, ![8, 64, 16]⟩
abbrev S8x1024 : Shape := ⟨2, ![8, 1024]⟩
abbrev S8x1x1024 : Shape := ⟨3, ![8, 1, 1024]⟩
abbrev S8x8x1024 : Shape := ⟨3, ![8, 8, 1024]⟩
abbrev S64x1024 : Shape := ⟨2, ![64, 1024]⟩
abbrev S8x8x128 : Shape := ⟨3, ![8, 8, 128]⟩
abbrev S1x8x8x1 : Shape := ⟨4, ![1, 8, 8, 1]⟩
abbrev S8x8x1x128 : Shape := ⟨4, ![8, 8, 1, 128]⟩
abbrev S8x8x8x128 : Shape := ⟨4, ![8, 8, 8, 128]⟩
abbrev S1024x1024 : Shape := ⟨2, ![1024, 1024]⟩
abbrev S64 : Shape := ⟨1, ![64]⟩
abbrev S64x1 : Shape := ⟨2, ![64, 1]⟩
abbrev S1024x8x128 : Shape := ⟨3, ![1024, 8, 128]⟩
abbrev S64x8x128 : Shape := ⟨3, ![64, 8, 128]⟩
abbrev S8x8 : Shape := ⟨2, ![8, 8]⟩
abbrev S8x8x1 : Shape := ⟨3, ![8, 8, 1]⟩
abbrev S1x8x8x130 : Shape := ⟨4, ![1, 8, 8, 130]⟩
abbrev S8x8x8x1 : Shape := ⟨4, ![8, 8, 8, 1]⟩
abbrev S8x8x8 : Shape := ⟨3, ![8, 8, 8]⟩
abbrev S1x8x8 : Shape := ⟨3, ![1, 8, 8]⟩

abbrev nBuf : Space → Nat
  | .hbm => 7
  | .vmem => 10
  | .smem => 0
  | _ => 0

abbrev bufTy : (tb : Table) → Fin (tcTables nBuf tb) → BufTy
  | .hbm, ⟨0, _⟩ => ⟨S8x1x8x128, .f32⟩
  | .hbm, ⟨1, _⟩ => ⟨S512x16x8x128, .f32⟩
  | .hbm, ⟨2, _⟩ => ⟨S512x16x8x128, .f32⟩
  | .hbm, ⟨3, _⟩ => ⟨S8x512, .i32⟩
  | .hbm, ⟨4, _⟩ => ⟨S8, .i32⟩
  | .hbm, ⟨5, _⟩ => ⟨S8x1, .i32⟩
  | .hbm, ⟨6, _⟩ => ⟨S8x1x8x128, .f32⟩
  | .local _ .vmem, ⟨0, _⟩ => ⟨S8x1x8x128, .f32⟩
  | .local _ .vmem, ⟨1, _⟩ => ⟨S8x512, .i32⟩
  | .local _ .vmem, ⟨2, _⟩ => ⟨S8x1, .i32⟩
  | .local _ .vmem, ⟨3, _⟩ => ⟨S8x1x8x128, .f32⟩
  | .local _ .vmem, ⟨4, _⟩ => ⟨S64x16x8x128, .f32⟩
  | .local _ .vmem, ⟨5, _⟩ => ⟨S64x16x8x128, .f32⟩
  | .local _ .vmem, ⟨6, _⟩ => ⟨S8x8x130, .f32⟩
  | .local _ .vmem, ⟨7, _⟩ => ⟨S8x8x130, .f32⟩
  | .local _ .vmem, ⟨8, _⟩ => ⟨S8x8x130, .f32⟩
  | .local _ .vmem, ⟨9, _⟩ => ⟨S8x8x8x130, .f32⟩
  | _, _ => ⟨S8x1x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 1 24 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5 : BitVec 32 := 8#32
  let v14 : BitVec 32 := Scalar.muli v2 c8_i32_5
  let v15 : BitVec 32 := Scalar.addi c0_i32 v14
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_3 v5
  let c4_i32_6 : BitVec 32 := 4#32
  let v16 : BitVec 32 := Scalar.muli v11 c4_i32_6
  let v17 : BitVec 32 := Scalar.addi v15 v16
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v18 : BitVec 32 := Scalar.muli v8 c1_i32_7
  let v19 : BitVec 32 := Scalar.addi v17 v18
  v19.toNat
def k0_dev2 (d0 : Dev nD) : Nat :=
  let c0_i32_21 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c1_i32_8 : BitVec 32 := 1#32
  let v20 : BitVec 32 := Scalar.addi v10 c1_i32_8
  let c0_i32_9 : BitVec 32 := 0#32
  let v21 : BitVec 32 := Scalar.addi v20 c0_i32_9
  let c8_i32_10 : BitVec 32 := 8#32
  let v22 : BitVec 32 := Scalar.remsi v21 c8_i32_10
  let c0_i32_12 : BitVec 32 := 0#32
  let v24 : BitVec 1 := Scalar.cmpi .sgt v22 c0_i32_12
  let v25 : BitVec 32 := Scalar.extui v24
  let c0_i32_13 : BitVec 32 := 0#32
  let v26 : BitVec 1 := Scalar.cmpi .slt v22 c0_i32_13
  let v27 : BitVec 32 := Scalar.extui v26
  let v28 : BitVec 32 := Scalar.subi v25 v27
  let c4_i32_11 : BitVec 32 := 4#32
  let c0_i32_14 : BitVec 32 := 0#32
  let v29 : BitVec 1 := Scalar.cmpi .sgt c4_i32_11 c0_i32_14
  let v30 : BitVec 32 := Scalar.extui v29
  let c0_i32_15 : BitVec 32 := 0#32
  let v31 : BitVec 1 := Scalar.cmpi .slt c4_i32_11 c0_i32_15
  let v32 : BitVec 32 := Scalar.extui v31
  let v33 : BitVec 32 := Scalar.subi v30 v32
  let v34 : BitVec 1 := Scalar.cmpi .ne v28 v33
  let v35 : BitVec 32 := Scalar.remsi v22 c4_i32_11
  let c0_i32_16 : BitVec 32 := 0#32
  let v36 : BitVec 1 := Scalar.cmpi .ne v35 c0_i32_16
  let v37 : BitVec 1 := Scalar.andi v34 v36
  let v23 : BitVec 32 := Scalar.divsi v22 c4_i32_11
  let c1_i32_17 : BitVec 32 := 1#32
  let v38 : BitVec 32 := Scalar.subi v23 c1_i32_17
  let v39 : BitVec 32 := Scalar.select v37 v38 v23
  let c8_i32_20 : BitVec 32 := 8#32
  let v41 : BitVec 32 := Scalar.muli v39 c8_i32_20
  let v42 : BitVec 32 := Scalar.addi c0_i32_21 v41
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_22 : BitVec 32 := 4#32
  let v43 : BitVec 32 := Scalar.muli v5 c4_i32_22
  let v44 : BitVec 32 := Scalar.addi v42 v43
  let c4_i32_18 : BitVec 32 := 4#32
  let v40 : BitVec 32 := Scalar.remsi v22 c4_i32_18
  let c1_i32_23 : BitVec 32 := 1#32
  let v45 : BitVec 32 := Scalar.muli v40 c1_i32_23
  let v46 : BitVec 32 := Scalar.addi v44 v45
  v46.toNat
def k0_dev3 (d0 : Dev nD) : Nat :=
  let c0_i32_37 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c1_i32_24 : BitVec 32 := 1#32
  let v47 : BitVec 32 := Scalar.addi v10 c1_i32_24
  let c1_i32_25 : BitVec 32 := 1#32
  let v48 : BitVec 32 := Scalar.addi v47 c1_i32_25
  let c8_i32_26 : BitVec 32 := 8#32
  let v49 : BitVec 32 := Scalar.remsi v48 c8_i32_26
  let c0_i32_28 : BitVec 32 := 0#32
  let v51 : BitVec 1 := Scalar.cmpi .sgt v49 c0_i32_28
  let v52 : BitVec 32 := Scalar.extui v51
  let c0_i32_29 : BitVec 32 := 0#32
  let v53 : BitVec 1 := Scalar.cmpi .slt v49 c0_i32_29
  let v54 : BitVec 32 := Scalar.extui v53
  let v55 : BitVec 32 := Scalar.subi v52 v54
  let c4_i32_27 : BitVec 32 := 4#32
  let c0_i32_30 : BitVec 32 := 0#32
  let v56 : BitVec 1 := Scalar.cmpi .sgt c4_i32_27 c0_i32_30
  let v57 : BitVec 32 := Scalar.extui v56
  let c0_i32_31 : BitVec 32 := 0#32
  let v58 : BitVec 1 := Scalar.cmpi .slt c4_i32_27 c0_i32_31
  let v59 : BitVec 32 := Scalar.extui v58
  let v60 : BitVec 32 := Scalar.subi v57 v59
  let v61 : BitVec 1 := Scalar.cmpi .ne v55 v60
  let v62 : BitVec 32 := Scalar.remsi v49 c4_i32_27
  let c0_i32_32 : BitVec 32 := 0#32
  let v63 : BitVec 1 := Scalar.cmpi .ne v62 c0_i32_32
  let v64 : BitVec 1 := Scalar.andi v61 v63
  let v50 : BitVec 32 := Scalar.divsi v49 c4_i32_27
  let c1_i32_33 : BitVec 32 := 1#32
  let v65 : BitVec 32 := Scalar.subi v50 c1_i32_33
  let v66 : BitVec 32 := Scalar.select v64 v65 v50
  let c8_i32_36 : BitVec 32 := 8#32
  let v68 : BitVec 32 := Scalar.muli v66 c8_i32_36
  let v69 : BitVec 32 := Scalar.addi c0_i32_37 v68
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_38 : BitVec 32 := 4#32
  let v70 : BitVec 32 := Scalar.muli v5 c4_i32_38
  let v71 : BitVec 32 := Scalar.addi v69 v70
  let c4_i32_34 : BitVec 32 := 4#32
  let v67 : BitVec 32 := Scalar.remsi v49 c4_i32_34
  let c1_i32_39 : BitVec 32 := 1#32
  let v72 : BitVec 32 := Scalar.muli v67 c1_i32_39
  let v73 : BitVec 32 := Scalar.addi v71 v72
  v73.toNat
def k0_dev4 (d0 : Dev nD) : Nat :=
  let c0_i32_53 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c1_i32_40 : BitVec 32 := 1#32
  let v74 : BitVec 32 := Scalar.addi v10 c1_i32_40
  let c2_i32_41 : BitVec 32 := 2#32
  let v75 : BitVec 32 := Scalar.addi v74 c2_i32_41
  let c8_i32_42 : BitVec 32 := 8#32
  let v76 : BitVec 32 := Scalar.remsi v75 c8_i32_42
  let c0_i32_44 : BitVec 32 := 0#32
  let v78 : BitVec 1 := Scalar.cmpi .sgt v76 c0_i32_44
  let v79 : BitVec 32 := Scalar.extui v78
  let c0_i32_45 : BitVec 32 := 0#32
  let v80 : BitVec 1 := Scalar.cmpi .slt v76 c0_i32_45
  let v81 : BitVec 32 := Scalar.extui v80
  let v82 : BitVec 32 := Scalar.subi v79 v81
  let c4_i32_43 : BitVec 32 := 4#32
  let c0_i32_46 : BitVec 32 := 0#32
  let v83 : BitVec 1 := Scalar.cmpi .sgt c4_i32_43 c0_i32_46
  let v84 : BitVec 32 := Scalar.extui v83
  let c0_i32_47 : BitVec 32 := 0#32
  let v85 : BitVec 1 := Scalar.cmpi .slt c4_i32_43 c0_i32_47
  let v86 : BitVec 32 := Scalar.extui v85
  let v87 : BitVec 32 := Scalar.subi v84 v86
  let v88 : BitVec 1 := Scalar.cmpi .ne v82 v87
  let v89 : BitVec 32 := Scalar.remsi v76 c4_i32_43
  let c0_i32_48 : BitVec 32 := 0#32
  let v90 : BitVec 1 := Scalar.cmpi .ne v89 c0_i32_48
  let v91 : BitVec 1 := Scalar.andi v88 v90
  let v77 : BitVec 32 := Scalar.divsi v76 c4_i32_43
  let c1_i32_49 : BitVec 32 := 1#32
  let v92 : BitVec 32 := Scalar.subi v77 c1_i32_49
  let v93 : BitVec 32 := Scalar.select v91 v92 v77
  let c8_i32_52 : BitVec 32 := 8#32
  let v95 : BitVec 32 := Scalar.muli v93 c8_i32_52
  let v96 : BitVec 32 := Scalar.addi c0_i32_53 v95
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_54 : BitVec 32 := 4#32
  let v97 : BitVec 32 := Scalar.muli v5 c4_i32_54
  let v98 : BitVec 32 := Scalar.addi v96 v97
  let c4_i32_50 : BitVec 32 := 4#32
  let v94 : BitVec 32 := Scalar.remsi v76 c4_i32_50
  let c1_i32_55 : BitVec 32 := 1#32
  let v99 : BitVec 32 := Scalar.muli v94 c1_i32_55
  let v100 : BitVec 32 := Scalar.addi v98 v99
  v100.toNat
def k0_dev5 (d0 : Dev nD) : Nat :=
  let c0_i32_68 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c1_i32_56 : BitVec 32 := 1#32
  let v101 : BitVec 32 := Scalar.addi v10 c1_i32_56
  let c3_i32 : BitVec 32 := 3#32
  let v102 : BitVec 32 := Scalar.addi v101 c3_i32
  let c8_i32_57 : BitVec 32 := 8#32
  let v103 : BitVec 32 := Scalar.remsi v102 c8_i32_57
  let c0_i32_59 : BitVec 32 := 0#32
  let v105 : BitVec 1 := Scalar.cmpi .sgt v103 c0_i32_59
  let v106 : BitVec 32 := Scalar.extui v105
  let c0_i32_60 : BitVec 32 := 0#32
  let v107 : BitVec 1 := Scalar.cmpi .slt v103 c0_i32_60
  let v108 : BitVec 32 := Scalar.extui v107
  let v109 : BitVec 32 := Scalar.subi v106 v108
  let c4_i32_58 : BitVec 32 := 4#32
  let c0_i32_61 : BitVec 32 := 0#32
  let v110 : BitVec 1 := Scalar.cmpi .sgt c4_i32_58 c0_i32_61
  let v111 : BitVec 32 := Scalar.extui v110
  let c0_i32_62 : BitVec 32 := 0#32
  let v112 : BitVec 1 := Scalar.cmpi .slt c4_i32_58 c0_i32_62
  let v113 : BitVec 32 := Scalar.extui v112
  let v114 : BitVec 32 := Scalar.subi v111 v113
  let v115 : BitVec 1 := Scalar.cmpi .ne v109 v114
  let v116 : BitVec 32 := Scalar.remsi v103 c4_i32_58
  let c0_i32_63 : BitVec 32 := 0#32
  let v117 : BitVec 1 := Scalar.cmpi .ne v116 c0_i32_63
  let v118 : BitVec 1 := Scalar.andi v115 v117
  let v104 : BitVec 32 := Scalar.divsi v103 c4_i32_58
  let c1_i32_64 : BitVec 32 := 1#32
  let v119 : BitVec 32 := Scalar.subi v104 c1_i32_64
  let v120 : BitVec 32 := Scalar.select v118 v119 v104
  let c8_i32_67 : BitVec 32 := 8#32
  let v122 : BitVec 32 := Scalar.muli v120 c8_i32_67
  let v123 : BitVec 32 := Scalar.addi c0_i32_68 v122
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_69 : BitVec 32 := 4#32
  let v124 : BitVec 32 := Scalar.muli v5 c4_i32_69
  let v125 : BitVec 32 := Scalar.addi v123 v124
  let c4_i32_65 : BitVec 32 := 4#32
  let v121 : BitVec 32 := Scalar.remsi v103 c4_i32_65
  let c1_i32_70 : BitVec 32 := 1#32
  let v126 : BitVec 32 := Scalar.muli v121 c1_i32_70
  let v127 : BitVec 32 := Scalar.addi v125 v126
  v127.toNat
def k0_dev6 (d0 : Dev nD) : Nat :=
  let c0_i32_84 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c1_i32_71 : BitVec 32 := 1#32
  let v128 : BitVec 32 := Scalar.addi v10 c1_i32_71
  let c4_i32_72 : BitVec 32 := 4#32
  let v129 : BitVec 32 := Scalar.addi v128 c4_i32_72
  let c8_i32_73 : BitVec 32 := 8#32
  let v130 : BitVec 32 := Scalar.remsi v129 c8_i32_73
  let c0_i32_75 : BitVec 32 := 0#32
  let v132 : BitVec 1 := Scalar.cmpi .sgt v130 c0_i32_75
  let v133 : BitVec 32 := Scalar.extui v132
  let c0_i32_76 : BitVec 32 := 0#32
  let v134 : BitVec 1 := Scalar.cmpi .slt v130 c0_i32_76
  let v135 : BitVec 32 := Scalar.extui v134
  let v136 : BitVec 32 := Scalar.subi v133 v135
  let c4_i32_74 : BitVec 32 := 4#32
  let c0_i32_77 : BitVec 32 := 0#32
  let v137 : BitVec 1 := Scalar.cmpi .sgt c4_i32_74 c0_i32_77
  let v138 : BitVec 32 := Scalar.extui v137
  let c0_i32_78 : BitVec 32 := 0#32
  let v139 : BitVec 1 := Scalar.cmpi .slt c4_i32_74 c0_i32_78
  let v140 : BitVec 32 := Scalar.extui v139
  let v141 : BitVec 32 := Scalar.subi v138 v140
  let v142 : BitVec 1 := Scalar.cmpi .ne v136 v141
  let v143 : BitVec 32 := Scalar.remsi v130 c4_i32_74
  let c0_i32_79 : BitVec 32 := 0#32
  let v144 : BitVec 1 := Scalar.cmpi .ne v143 c0_i32_79
  let v145 : BitVec 1 := Scalar.andi v142 v144
  let v131 : BitVec 32 := Scalar.divsi v130 c4_i32_74
  let c1_i32_80 : BitVec 32 := 1#32
  let v146 : BitVec 32 := Scalar.subi v131 c1_i32_80
  let v147 : BitVec 32 := Scalar.select v145 v146 v131
  let c8_i32_83 : BitVec 32 := 8#32
  let v149 : BitVec 32 := Scalar.muli v147 c8_i32_83
  let v150 : BitVec 32 := Scalar.addi c0_i32_84 v149
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_85 : BitVec 32 := 4#32
  let v151 : BitVec 32 := Scalar.muli v5 c4_i32_85
  let v152 : BitVec 32 := Scalar.addi v150 v151
  let c4_i32_81 : BitVec 32 := 4#32
  let v148 : BitVec 32 := Scalar.remsi v130 c4_i32_81
  let c1_i32_86 : BitVec 32 := 1#32
  let v153 : BitVec 32 := Scalar.muli v148 c1_i32_86
  let v154 : BitVec 32 := Scalar.addi v152 v153
  v154.toNat
def k0_dev7 (d0 : Dev nD) : Nat :=
  let c0_i32_99 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c1_i32_87 : BitVec 32 := 1#32
  let v155 : BitVec 32 := Scalar.addi v10 c1_i32_87
  let c5_i32 : BitVec 32 := 5#32
  let v156 : BitVec 32 := Scalar.addi v155 c5_i32
  let c8_i32_88 : BitVec 32 := 8#32
  let v157 : BitVec 32 := Scalar.remsi v156 c8_i32_88
  let c0_i32_90 : BitVec 32 := 0#32
  let v159 : BitVec 1 := Scalar.cmpi .sgt v157 c0_i32_90
  let v160 : BitVec 32 := Scalar.extui v159
  let c0_i32_91 : BitVec 32 := 0#32
  let v161 : BitVec 1 := Scalar.cmpi .slt v157 c0_i32_91
  let v162 : BitVec 32 := Scalar.extui v161
  let v163 : BitVec 32 := Scalar.subi v160 v162
  let c4_i32_89 : BitVec 32 := 4#32
  let c0_i32_92 : BitVec 32 := 0#32
  let v164 : BitVec 1 := Scalar.cmpi .sgt c4_i32_89 c0_i32_92
  let v165 : BitVec 32 := Scalar.extui v164
  let c0_i32_93 : BitVec 32 := 0#32
  let v166 : BitVec 1 := Scalar.cmpi .slt c4_i32_89 c0_i32_93
  let v167 : BitVec 32 := Scalar.extui v166
  let v168 : BitVec 32 := Scalar.subi v165 v167
  let v169 : BitVec 1 := Scalar.cmpi .ne v163 v168
  let v170 : BitVec 32 := Scalar.remsi v157 c4_i32_89
  let c0_i32_94 : BitVec 32 := 0#32
  let v171 : BitVec 1 := Scalar.cmpi .ne v170 c0_i32_94
  let v172 : BitVec 1 := Scalar.andi v169 v171
  let v158 : BitVec 32 := Scalar.divsi v157 c4_i32_89
  let c1_i32_95 : BitVec 32 := 1#32
  let v173 : BitVec 32 := Scalar.subi v158 c1_i32_95
  let v174 : BitVec 32 := Scalar.select v172 v173 v158
  let c8_i32_98 : BitVec 32 := 8#32
  let v176 : BitVec 32 := Scalar.muli v174 c8_i32_98
  let v177 : BitVec 32 := Scalar.addi c0_i32_99 v176
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_100 : BitVec 32 := 4#32
  let v178 : BitVec 32 := Scalar.muli v5 c4_i32_100
  let v179 : BitVec 32 := Scalar.addi v177 v178
  let c4_i32_96 : BitVec 32 := 4#32
  let v175 : BitVec 32 := Scalar.remsi v157 c4_i32_96
  let c1_i32_101 : BitVec 32 := 1#32
  let v180 : BitVec 32 := Scalar.muli v175 c1_i32_101
  let v181 : BitVec 32 := Scalar.addi v179 v180
  v181.toNat
def k0_dev8 (d0 : Dev nD) : Nat :=
  let c0_i32_114 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c1_i32_102 : BitVec 32 := 1#32
  let v182 : BitVec 32 := Scalar.addi v10 c1_i32_102
  let c6_i32 : BitVec 32 := 6#32
  let v183 : BitVec 32 := Scalar.addi v182 c6_i32
  let c8_i32_103 : BitVec 32 := 8#32
  let v184 : BitVec 32 := Scalar.remsi v183 c8_i32_103
  let c0_i32_105 : BitVec 32 := 0#32
  let v186 : BitVec 1 := Scalar.cmpi .sgt v184 c0_i32_105
  let v187 : BitVec 32 := Scalar.extui v186
  let c0_i32_106 : BitVec 32 := 0#32
  let v188 : BitVec 1 := Scalar.cmpi .slt v184 c0_i32_106
  let v189 : BitVec 32 := Scalar.extui v188
  let v190 : BitVec 32 := Scalar.subi v187 v189
  let c4_i32_104 : BitVec 32 := 4#32
  let c0_i32_107 : BitVec 32 := 0#32
  let v191 : BitVec 1 := Scalar.cmpi .sgt c4_i32_104 c0_i32_107
  let v192 : BitVec 32 := Scalar.extui v191
  let c0_i32_108 : BitVec 32 := 0#32
  let v193 : BitVec 1 := Scalar.cmpi .slt c4_i32_104 c0_i32_108
  let v194 : BitVec 32 := Scalar.extui v193
  let v195 : BitVec 32 := Scalar.subi v192 v194
  let v196 : BitVec 1 := Scalar.cmpi .ne v190 v195
  let v197 : BitVec 32 := Scalar.remsi v184 c4_i32_104
  let c0_i32_109 : BitVec 32 := 0#32
  let v198 : BitVec 1 := Scalar.cmpi .ne v197 c0_i32_109
  let v199 : BitVec 1 := Scalar.andi v196 v198
  let v185 : BitVec 32 := Scalar.divsi v184 c4_i32_104
  let c1_i32_110 : BitVec 32 := 1#32
  let v200 : BitVec 32 := Scalar.subi v185 c1_i32_110
  let v201 : BitVec 32 := Scalar.select v199 v200 v185
  let c8_i32_113 : BitVec 32 := 8#32
  let v203 : BitVec 32 := Scalar.muli v201 c8_i32_113
  let v204 : BitVec 32 := Scalar.addi c0_i32_114 v203
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_115 : BitVec 32 := 4#32
  let v205 : BitVec 32 := Scalar.muli v5 c4_i32_115
  let v206 : BitVec 32 := Scalar.addi v204 v205
  let c4_i32_111 : BitVec 32 := 4#32
  let v202 : BitVec 32 := Scalar.remsi v184 c4_i32_111
  let c1_i32_116 : BitVec 32 := 1#32
  let v207 : BitVec 32 := Scalar.muli v202 c1_i32_116
  let v208 : BitVec 32 := Scalar.addi v206 v207
  v208.toNat
def k0_off1 (d0 : Dev nD) : Fin 4 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c64_i32 : BitVec 32 := 64#32
  let v12 : BitVec 32 := Scalar.muli v10 c64_i32
  let c0_i32_118 : BitVec 32 := 0#32
  let c0_i32_119 : BitVec 32 := 0#32
  let c0_i32_120 : BitVec 32 := 0#32
  ![v12.toNat, 0, 0, 0]
def k0_dev9 (d0 : Dev nD) : Nat :=
  let c0_i32_161 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_160 : BitVec 32 := 8#32
  let v299 : BitVec 32 := Scalar.muli v2 c8_i32_160
  let v300 : BitVec 32 := Scalar.addi c0_i32_161 v299
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_3 v5
  let c4_i32_162 : BitVec 32 := 4#32
  let v301 : BitVec 32 := Scalar.muli v11 c4_i32_162
  let v302 : BitVec 32 := Scalar.addi v300 v301
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_163 : BitVec 32 := 1#32
  let v303 : BitVec 32 := Scalar.muli v8 c1_i32_163
  let v304 : BitVec 32 := Scalar.addi v302 v303
  v304.toNat
def k0_off2 (d0 : Dev nD) : Fin 4 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c0_i32_178 : BitVec 32 := 0#32
  let c0_i32_179 : BitVec 32 := 0#32
  let c0_i32_180 : BitVec 32 := 0#32
  ![v10.toNat, 0, 0, 0]
def k0_off3 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  ![v10.toNat]
def k0_dev10 (d0 : Dev nD) : Nat :=
  let c0_i32_194 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c1_i32_181 : BitVec 32 := 1#32
  let v339 : BitVec 32 := Scalar.addi v10 c1_i32_181
  let c0_i32_182 : BitVec 32 := 0#32
  let v340 : BitVec 32 := Scalar.addi v339 c0_i32_182
  let c8_i32_183 : BitVec 32 := 8#32
  let v341 : BitVec 32 := Scalar.remsi v340 c8_i32_183
  let c0_i32_185 : BitVec 32 := 0#32
  let v343 : BitVec 1 := Scalar.cmpi .sgt v341 c0_i32_185
  let v344 : BitVec 32 := Scalar.extui v343
  let c0_i32_186 : BitVec 32 := 0#32
  let v345 : BitVec 1 := Scalar.cmpi .slt v341 c0_i32_186
  let v346 : BitVec 32 := Scalar.extui v345
  let v347 : BitVec 32 := Scalar.subi v344 v346
  let c4_i32_184 : BitVec 32 := 4#32
  let c0_i32_187 : BitVec 32 := 0#32
  let v348 : BitVec 1 := Scalar.cmpi .sgt c4_i32_184 c0_i32_187
  let v349 : BitVec 32 := Scalar.extui v348
  let c0_i32_188 : BitVec 32 := 0#32
  let v350 : BitVec 1 := Scalar.cmpi .slt c4_i32_184 c0_i32_188
  let v351 : BitVec 32 := Scalar.extui v350
  let v352 : BitVec 32 := Scalar.subi v349 v351
  let v353 : BitVec 1 := Scalar.cmpi .ne v347 v352
  let v354 : BitVec 32 := Scalar.remsi v341 c4_i32_184
  let c0_i32_189 : BitVec 32 := 0#32
  let v355 : BitVec 1 := Scalar.cmpi .ne v354 c0_i32_189
  let v356 : BitVec 1 := Scalar.andi v353 v355
  let v342 : BitVec 32 := Scalar.divsi v341 c4_i32_184
  let c1_i32_190 : BitVec 32 := 1#32
  let v357 : BitVec 32 := Scalar.subi v342 c1_i32_190
  let v358 : BitVec 32 := Scalar.select v356 v357 v342
  let c8_i32_193 : BitVec 32 := 8#32
  let v360 : BitVec 32 := Scalar.muli v358 c8_i32_193
  let v361 : BitVec 32 := Scalar.addi c0_i32_194 v360
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_195 : BitVec 32 := 4#32
  let v362 : BitVec 32 := Scalar.muli v5 c4_i32_195
  let v363 : BitVec 32 := Scalar.addi v361 v362
  let c4_i32_191 : BitVec 32 := 4#32
  let v359 : BitVec 32 := Scalar.remsi v341 c4_i32_191
  let c1_i32_196 : BitVec 32 := 1#32
  let v364 : BitVec 32 := Scalar.muli v359 c1_i32_196
  let v365 : BitVec 32 := Scalar.addi v363 v364
  v365.toNat
def k0_dev11 (d0 : Dev nD) : Nat :=
  let c0_i32_213 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c1_i32_200 : BitVec 32 := 1#32
  let v372 : BitVec 32 := Scalar.addi v10 c1_i32_200
  let c1_i32_201 : BitVec 32 := 1#32
  let v373 : BitVec 32 := Scalar.addi v372 c1_i32_201
  let c8_i32_202 : BitVec 32 := 8#32
  let v374 : BitVec 32 := Scalar.remsi v373 c8_i32_202
  let c0_i32_204 : BitVec 32 := 0#32
  let v376 : BitVec 1 := Scalar.cmpi .sgt v374 c0_i32_204
  let v377 : BitVec 32 := Scalar.extui v376
  let c0_i32_205 : BitVec 32 := 0#32
  let v378 : BitVec 1 := Scalar.cmpi .slt v374 c0_i32_205
  let v379 : BitVec 32 := Scalar.extui v378
  let v380 : BitVec 32 := Scalar.subi v377 v379
  let c4_i32_203 : BitVec 32 := 4#32
  let c0_i32_206 : BitVec 32 := 0#32
  let v381 : BitVec 1 := Scalar.cmpi .sgt c4_i32_203 c0_i32_206
  let v382 : BitVec 32 := Scalar.extui v381
  let c0_i32_207 : BitVec 32 := 0#32
  let v383 : BitVec 1 := Scalar.cmpi .slt c4_i32_203 c0_i32_207
  let v384 : BitVec 32 := Scalar.extui v383
  let v385 : BitVec 32 := Scalar.subi v382 v384
  let v386 : BitVec 1 := Scalar.cmpi .ne v380 v385
  let v387 : BitVec 32 := Scalar.remsi v374 c4_i32_203
  let c0_i32_208 : BitVec 32 := 0#32
  let v388 : BitVec 1 := Scalar.cmpi .ne v387 c0_i32_208
  let v389 : BitVec 1 := Scalar.andi v386 v388
  let v375 : BitVec 32 := Scalar.divsi v374 c4_i32_203
  let c1_i32_209 : BitVec 32 := 1#32
  let v390 : BitVec 32 := Scalar.subi v375 c1_i32_209
  let v391 : BitVec 32 := Scalar.select v389 v390 v375
  let c8_i32_212 : BitVec 32 := 8#32
  let v393 : BitVec 32 := Scalar.muli v391 c8_i32_212
  let v394 : BitVec 32 := Scalar.addi c0_i32_213 v393
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_214 : BitVec 32 := 4#32
  let v395 : BitVec 32 := Scalar.muli v5 c4_i32_214
  let v396 : BitVec 32 := Scalar.addi v394 v395
  let c4_i32_210 : BitVec 32 := 4#32
  let v392 : BitVec 32 := Scalar.remsi v374 c4_i32_210
  let c1_i32_215 : BitVec 32 := 1#32
  let v397 : BitVec 32 := Scalar.muli v392 c1_i32_215
  let v398 : BitVec 32 := Scalar.addi v396 v397
  v398.toNat
def k0_dev12 (d0 : Dev nD) : Nat :=
  let c0_i32_232 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c1_i32_219 : BitVec 32 := 1#32
  let v405 : BitVec 32 := Scalar.addi v10 c1_i32_219
  let c2_i32_220 : BitVec 32 := 2#32
  let v406 : BitVec 32 := Scalar.addi v405 c2_i32_220
  let c8_i32_221 : BitVec 32 := 8#32
  let v407 : BitVec 32 := Scalar.remsi v406 c8_i32_221
  let c0_i32_223 : BitVec 32 := 0#32
  let v409 : BitVec 1 := Scalar.cmpi .sgt v407 c0_i32_223
  let v410 : BitVec 32 := Scalar.extui v409
  let c0_i32_224 : BitVec 32 := 0#32
  let v411 : BitVec 1 := Scalar.cmpi .slt v407 c0_i32_224
  let v412 : BitVec 32 := Scalar.extui v411
  let v413 : BitVec 32 := Scalar.subi v410 v412
  let c4_i32_222 : BitVec 32 := 4#32
  let c0_i32_225 : BitVec 32 := 0#32
  let v414 : BitVec 1 := Scalar.cmpi .sgt c4_i32_222 c0_i32_225
  let v415 : BitVec 32 := Scalar.extui v414
  let c0_i32_226 : BitVec 32 := 0#32
  let v416 : BitVec 1 := Scalar.cmpi .slt c4_i32_222 c0_i32_226
  let v417 : BitVec 32 := Scalar.extui v416
  let v418 : BitVec 32 := Scalar.subi v415 v417
  let v419 : BitVec 1 := Scalar.cmpi .ne v413 v418
  let v420 : BitVec 32 := Scalar.remsi v407 c4_i32_222
  let c0_i32_227 : BitVec 32 := 0#32
  let v421 : BitVec 1 := Scalar.cmpi .ne v420 c0_i32_227
  let v422 : BitVec 1 := Scalar.andi v419 v421
  let v408 : BitVec 32 := Scalar.divsi v407 c4_i32_222
  let c1_i32_228 : BitVec 32 := 1#32
  let v423 : BitVec 32 := Scalar.subi v408 c1_i32_228
  let v424 : BitVec 32 := Scalar.select v422 v423 v408
  let c8_i32_231 : BitVec 32 := 8#32
  let v426 : BitVec 32 := Scalar.muli v424 c8_i32_231
  let v427 : BitVec 32 := Scalar.addi c0_i32_232 v426
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_233 : BitVec 32 := 4#32
  let v428 : BitVec 32 := Scalar.muli v5 c4_i32_233
  let v429 : BitVec 32 := Scalar.addi v427 v428
  let c4_i32_229 : BitVec 32 := 4#32
  let v425 : BitVec 32 := Scalar.remsi v407 c4_i32_229
  let c1_i32_234 : BitVec 32 := 1#32
  let v430 : BitVec 32 := Scalar.muli v425 c1_i32_234
  let v431 : BitVec 32 := Scalar.addi v429 v430
  v431.toNat
def k0_dev13 (d0 : Dev nD) : Nat :=
  let c0_i32_251 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c1_i32_238 : BitVec 32 := 1#32
  let v438 : BitVec 32 := Scalar.addi v10 c1_i32_238
  let c3_i32_239 : BitVec 32 := 3#32
  let v439 : BitVec 32 := Scalar.addi v438 c3_i32_239
  let c8_i32_240 : BitVec 32 := 8#32
  let v440 : BitVec 32 := Scalar.remsi v439 c8_i32_240
  let c0_i32_242 : BitVec 32 := 0#32
  let v442 : BitVec 1 := Scalar.cmpi .sgt v440 c0_i32_242
  let v443 : BitVec 32 := Scalar.extui v442
  let c0_i32_243 : BitVec 32 := 0#32
  let v444 : BitVec 1 := Scalar.cmpi .slt v440 c0_i32_243
  let v445 : BitVec 32 := Scalar.extui v444
  let v446 : BitVec 32 := Scalar.subi v443 v445
  let c4_i32_241 : BitVec 32 := 4#32
  let c0_i32_244 : BitVec 32 := 0#32
  let v447 : BitVec 1 := Scalar.cmpi .sgt c4_i32_241 c0_i32_244
  let v448 : BitVec 32 := Scalar.extui v447
  let c0_i32_245 : BitVec 32 := 0#32
  let v449 : BitVec 1 := Scalar.cmpi .slt c4_i32_241 c0_i32_245
  let v450 : BitVec 32 := Scalar.extui v449
  let v451 : BitVec 32 := Scalar.subi v448 v450
  let v452 : BitVec 1 := Scalar.cmpi .ne v446 v451
  let v453 : BitVec 32 := Scalar.remsi v440 c4_i32_241
  let c0_i32_246 : BitVec 32 := 0#32
  let v454 : BitVec 1 := Scalar.cmpi .ne v453 c0_i32_246
  let v455 : BitVec 1 := Scalar.andi v452 v454
  let v441 : BitVec 32 := Scalar.divsi v440 c4_i32_241
  let c1_i32_247 : BitVec 32 := 1#32
  let v456 : BitVec 32 := Scalar.subi v441 c1_i32_247
  let v457 : BitVec 32 := Scalar.select v455 v456 v441
  let c8_i32_250 : BitVec 32 := 8#32
  let v459 : BitVec 32 := Scalar.muli v457 c8_i32_250
  let v460 : BitVec 32 := Scalar.addi c0_i32_251 v459
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_252 : BitVec 32 := 4#32
  let v461 : BitVec 32 := Scalar.muli v5 c4_i32_252
  let v462 : BitVec 32 := Scalar.addi v460 v461
  let c4_i32_248 : BitVec 32 := 4#32
  let v458 : BitVec 32 := Scalar.remsi v440 c4_i32_248
  let c1_i32_253 : BitVec 32 := 1#32
  let v463 : BitVec 32 := Scalar.muli v458 c1_i32_253
  let v464 : BitVec 32 := Scalar.addi v462 v463
  v464.toNat
def k0_dev14 (d0 : Dev nD) : Nat :=
  let c0_i32_270 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c1_i32_257 : BitVec 32 := 1#32
  let v471 : BitVec 32 := Scalar.addi v10 c1_i32_257
  let c4_i32_258 : BitVec 32 := 4#32
  let v472 : BitVec 32 := Scalar.addi v471 c4_i32_258
  let c8_i32_259 : BitVec 32 := 8#32
  let v473 : BitVec 32 := Scalar.remsi v472 c8_i32_259
  let c0_i32_261 : BitVec 32 := 0#32
  let v475 : BitVec 1 := Scalar.cmpi .sgt v473 c0_i32_261
  let v476 : BitVec 32 := Scalar.extui v475
  let c0_i32_262 : BitVec 32 := 0#32
  let v477 : BitVec 1 := Scalar.cmpi .slt v473 c0_i32_262
  let v478 : BitVec 32 := Scalar.extui v477
  let v479 : BitVec 32 := Scalar.subi v476 v478
  let c4_i32_260 : BitVec 32 := 4#32
  let c0_i32_263 : BitVec 32 := 0#32
  let v480 : BitVec 1 := Scalar.cmpi .sgt c4_i32_260 c0_i32_263
  let v481 : BitVec 32 := Scalar.extui v480
  let c0_i32_264 : BitVec 32 := 0#32
  let v482 : BitVec 1 := Scalar.cmpi .slt c4_i32_260 c0_i32_264
  let v483 : BitVec 32 := Scalar.extui v482
  let v484 : BitVec 32 := Scalar.subi v481 v483
  let v485 : BitVec 1 := Scalar.cmpi .ne v479 v484
  let v486 : BitVec 32 := Scalar.remsi v473 c4_i32_260
  let c0_i32_265 : BitVec 32 := 0#32
  let v487 : BitVec 1 := Scalar.cmpi .ne v486 c0_i32_265
  let v488 : BitVec 1 := Scalar.andi v485 v487
  let v474 : BitVec 32 := Scalar.divsi v473 c4_i32_260
  let c1_i32_266 : BitVec 32 := 1#32
  let v489 : BitVec 32 := Scalar.subi v474 c1_i32_266
  let v490 : BitVec 32 := Scalar.select v488 v489 v474
  let c8_i32_269 : BitVec 32 := 8#32
  let v492 : BitVec 32 := Scalar.muli v490 c8_i32_269
  let v493 : BitVec 32 := Scalar.addi c0_i32_270 v492
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_271 : BitVec 32 := 4#32
  let v494 : BitVec 32 := Scalar.muli v5 c4_i32_271
  let v495 : BitVec 32 := Scalar.addi v493 v494
  let c4_i32_267 : BitVec 32 := 4#32
  let v491 : BitVec 32 := Scalar.remsi v473 c4_i32_267
  let c1_i32_272 : BitVec 32 := 1#32
  let v496 : BitVec 32 := Scalar.muli v491 c1_i32_272
  let v497 : BitVec 32 := Scalar.addi v495 v496
  v497.toNat
def k0_dev15 (d0 : Dev nD) : Nat :=
  let c0_i32_289 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c1_i32_276 : BitVec 32 := 1#32
  let v504 : BitVec 32 := Scalar.addi v10 c1_i32_276
  let c5_i32_277 : BitVec 32 := 5#32
  let v505 : BitVec 32 := Scalar.addi v504 c5_i32_277
  let c8_i32_278 : BitVec 32 := 8#32
  let v506 : BitVec 32 := Scalar.remsi v505 c8_i32_278
  let c0_i32_280 : BitVec 32 := 0#32
  let v508 : BitVec 1 := Scalar.cmpi .sgt v506 c0_i32_280
  let v509 : BitVec 32 := Scalar.extui v508
  let c0_i32_281 : BitVec 32 := 0#32
  let v510 : BitVec 1 := Scalar.cmpi .slt v506 c0_i32_281
  let v511 : BitVec 32 := Scalar.extui v510
  let v512 : BitVec 32 := Scalar.subi v509 v511
  let c4_i32_279 : BitVec 32 := 4#32
  let c0_i32_282 : BitVec 32 := 0#32
  let v513 : BitVec 1 := Scalar.cmpi .sgt c4_i32_279 c0_i32_282
  let v514 : BitVec 32 := Scalar.extui v513
  let c0_i32_283 : BitVec 32 := 0#32
  let v515 : BitVec 1 := Scalar.cmpi .slt c4_i32_279 c0_i32_283
  let v516 : BitVec 32 := Scalar.extui v515
  let v517 : BitVec 32 := Scalar.subi v514 v516
  let v518 : BitVec 1 := Scalar.cmpi .ne v512 v517
  let v519 : BitVec 32 := Scalar.remsi v506 c4_i32_279
  let c0_i32_284 : BitVec 32 := 0#32
  let v520 : BitVec 1 := Scalar.cmpi .ne v519 c0_i32_284
  let v521 : BitVec 1 := Scalar.andi v518 v520
  let v507 : BitVec 32 := Scalar.divsi v506 c4_i32_279
  let c1_i32_285 : BitVec 32 := 1#32
  let v522 : BitVec 32 := Scalar.subi v507 c1_i32_285
  let v523 : BitVec 32 := Scalar.select v521 v522 v507
  let c8_i32_288 : BitVec 32 := 8#32
  let v525 : BitVec 32 := Scalar.muli v523 c8_i32_288
  let v526 : BitVec 32 := Scalar.addi c0_i32_289 v525
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_290 : BitVec 32 := 4#32
  let v527 : BitVec 32 := Scalar.muli v5 c4_i32_290
  let v528 : BitVec 32 := Scalar.addi v526 v527
  let c4_i32_286 : BitVec 32 := 4#32
  let v524 : BitVec 32 := Scalar.remsi v506 c4_i32_286
  let c1_i32_291 : BitVec 32 := 1#32
  let v529 : BitVec 32 := Scalar.muli v524 c1_i32_291
  let v530 : BitVec 32 := Scalar.addi v528 v529
  v530.toNat
def k0_dev16 (d0 : Dev nD) : Nat :=
  let c0_i32_308 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c1_i32_295 : BitVec 32 := 1#32
  let v537 : BitVec 32 := Scalar.addi v10 c1_i32_295
  let c6_i32_296 : BitVec 32 := 6#32
  let v538 : BitVec 32 := Scalar.addi v537 c6_i32_296
  let c8_i32_297 : BitVec 32 := 8#32
  let v539 : BitVec 32 := Scalar.remsi v538 c8_i32_297
  let c0_i32_299 : BitVec 32 := 0#32
  let v541 : BitVec 1 := Scalar.cmpi .sgt v539 c0_i32_299
  let v542 : BitVec 32 := Scalar.extui v541
  let c0_i32_300 : BitVec 32 := 0#32
  let v543 : BitVec 1 := Scalar.cmpi .slt v539 c0_i32_300
  let v544 : BitVec 32 := Scalar.extui v543
  let v545 : BitVec 32 := Scalar.subi v542 v544
  let c4_i32_298 : BitVec 32 := 4#32
  let c0_i32_301 : BitVec 32 := 0#32
  let v546 : BitVec 1 := Scalar.cmpi .sgt c4_i32_298 c0_i32_301
  let v547 : BitVec 32 := Scalar.extui v546
  let c0_i32_302 : BitVec 32 := 0#32
  let v548 : BitVec 1 := Scalar.cmpi .slt c4_i32_298 c0_i32_302
  let v549 : BitVec 32 := Scalar.extui v548
  let v550 : BitVec 32 := Scalar.subi v547 v549
  let v551 : BitVec 1 := Scalar.cmpi .ne v545 v550
  let v552 : BitVec 32 := Scalar.remsi v539 c4_i32_298
  let c0_i32_303 : BitVec 32 := 0#32
  let v553 : BitVec 1 := Scalar.cmpi .ne v552 c0_i32_303
  let v554 : BitVec 1 := Scalar.andi v551 v553
  let v540 : BitVec 32 := Scalar.divsi v539 c4_i32_298
  let c1_i32_304 : BitVec 32 := 1#32
  let v555 : BitVec 32 := Scalar.subi v540 c1_i32_304
  let v556 : BitVec 32 := Scalar.select v554 v555 v540
  let c8_i32_307 : BitVec 32 := 8#32
  let v558 : BitVec 32 := Scalar.muli v556 c8_i32_307
  let v559 : BitVec 32 := Scalar.addi c0_i32_308 v558
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_309 : BitVec 32 := 4#32
  let v560 : BitVec 32 := Scalar.muli v5 c4_i32_309
  let v561 : BitVec 32 := Scalar.addi v559 v560
  let c4_i32_305 : BitVec 32 := 4#32
  let v557 : BitVec 32 := Scalar.remsi v539 c4_i32_305
  let c1_i32_310 : BitVec 32 := 1#32
  let v562 : BitVec 32 := Scalar.muli v557 c1_i32_310
  let v563 : BitVec 32 := Scalar.addi v561 v562
  v563.toNat
def k0_off4 (d0 : Dev nD) (c0_i32_318 : BitVec 32) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c1_i32_317 : BitVec 32 := 1#32
  let v572 : BitVec 32 := Scalar.addi v10 c1_i32_317
  let v573 : BitVec 32 := Scalar.addi v572 c0_i32_318
  let c8_i32_319 : BitVec 32 := 8#32
  let v574 : BitVec 32 := Scalar.remsi v573 c8_i32_319
  ![v574.toNat]
def k0_off5 (d0 : Dev nD) (c0_i32_318 : BitVec 32) : Fin 4 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v9 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c1_i32_317 : BitVec 32 := 1#32
  let v572 : BitVec 32 := Scalar.addi v10 c1_i32_317
  let v573 : BitVec 32 := Scalar.addi v572 c0_i32_318
  let c8_i32_319 : BitVec 32 := 8#32
  let v574 : BitVec 32 := Scalar.remsi v573 c8_i32_319
  let c0_i32_333 : BitVec 32 := 0#32
  let c0_i32_334 : BitVec 32 := 0#32
  let c0_i32_335 : BitVec 32 := 0#32
  ![v574.toNat, 0, 0, 0]
abbrev stage0_0 : Fin 1 → Memref sig .tc .vmem S8x1x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "inv_sqrt_d" => some (((Real.sqrt 128)⁻¹ : ℝ) : EReal)
  | _ => none
-- ==== ReferenceIdeal.lean ====
abbrev S8x1x8x128 : Shape := ⟨4, ![8, 1, 8, 128]⟩
abbrev S1024x16x8x128 : Shape := ⟨4, ![1024, 16, 8, 128]⟩
abbrev S8x512 : Shape := ⟨2, ![8, 512]⟩
abbrev S8 : Shape := ⟨1, ![8]⟩
abbrev S_ : Shape := ⟨0, ![]⟩
abbrev S8x512x1 : Shape := ⟨3, ![8, 512, 1]⟩
abbrev S8x512x16x8x128 : Shape := ⟨5, ![8, 512, 16, 8, 128]⟩
abbrev S8x8x1x512x16 : Shape := ⟨5, ![8, 8, 1, 512, 16]⟩
abbrev S512 : Shape := ⟨1, ![512]⟩
abbrev S1x512 : Shape := ⟨2, ![1, 512]⟩
abbrev S8x1 : Shape := ⟨2, ![8, 1]⟩
abbrev S8x1x1x512x1 : Shape := ⟨5, ![8, 1, 1, 512, 1]⟩
abbrev S8x8x1 : Shape := ⟨3, ![8, 8, 1]⟩
abbrev S8x8x1x1x1 : Shape := ⟨5, ![8, 8, 1, 1, 1]⟩
abbrev S8x8x128x1 : Shape := ⟨4, ![8, 8, 128, 1]⟩

abbrev nBuf : Space → Nat
  | .hbm => 53
  | .vmem => 0
  | .smem => 0
  | _ => 0

abbrev bufTy : (tb : Table) → Fin (tcTables nBuf tb) → BufTy
  | .hbm, ⟨0, _⟩ => ⟨S8x1x8x128, .f32⟩
  | .hbm, ⟨1, _⟩ => ⟨S1024x16x8x128, .f32⟩
  | .hbm, ⟨2, _⟩ => ⟨S1024x16x8x128, .f32⟩
  | .hbm, ⟨3, _⟩ => ⟨S8x512, .i32⟩
  | .hbm, ⟨4, _⟩ => ⟨S8, .i32⟩
  | .hbm, ⟨5, _⟩ => ⟨S_, .i32⟩
  | .hbm, ⟨6, _⟩ => ⟨S8x512, .i32⟩
  | .hbm, ⟨7, _⟩ => ⟨S8x512, .i1⟩
  | .hbm, ⟨8, _⟩ => ⟨S_, .i32⟩
  | .hbm, ⟨9, _⟩ => ⟨S8x512, .i32⟩
  | .hbm, ⟨10, _⟩ => ⟨S8x512, .i32⟩
  | .hbm, ⟨11, _⟩ => ⟨S8x512, .i32⟩
  | .hbm, ⟨12, _⟩ => ⟨S8x512x1, .i32⟩
  | .hbm, ⟨13, _⟩ => ⟨S8x512x16x8x128, .f32⟩
  | .hbm, ⟨14, _⟩ => ⟨S8x8x1x512x16, .f32⟩
  | .hbm, ⟨15, _⟩ => ⟨S_, .f32⟩
  | .hbm, ⟨16, _⟩ => ⟨S_, .f32⟩
  | .hbm, ⟨17, _⟩ => ⟨S8x8x1x512x16, .f32⟩
  | .hbm, ⟨18, _⟩ => ⟨S8x8x1x512x16, .f32⟩
  | .hbm, ⟨19, _⟩ => ⟨S512, .i32⟩
  | .hbm, ⟨20, _⟩ => ⟨S1x512, .i32⟩
  | .hbm, ⟨21, _⟩ => ⟨S8x1, .i32⟩
  | .hbm, ⟨22, _⟩ => ⟨S8x512, .i32⟩
  | .hbm, ⟨23, _⟩ => ⟨S8x512, .i32⟩
  | .hbm, ⟨24, _⟩ => ⟨S8x512, .i1⟩
  | .hbm, ⟨25, _⟩ => ⟨S8x1x1x512x1, .i1⟩
  | .hbm, ⟨26, _⟩ => ⟨S_, .f32⟩
  | .hbm, ⟨27, _⟩ => ⟨S_, .f32⟩
  | .hbm, ⟨28, _⟩ => ⟨S8x8x1x512x16, .i1⟩
  | .hbm, ⟨29, _⟩ => ⟨S8x8x1x512x16, .f32⟩
  | .hbm, ⟨30, _⟩ => ⟨S8x8x1x512x16, .f32⟩
  | .hbm, ⟨31, _⟩ => ⟨S_, .f32⟩
  | .hbm, ⟨32, _⟩ => ⟨S8x8x1, .f32⟩
  | .hbm, ⟨33, _⟩ => ⟨S8x8x1x1x1, .f32⟩
  | .hbm, ⟨34, _⟩ => ⟨S8x8x1x512x16, .f32⟩
  | .hbm, ⟨35, _⟩ => ⟨S8x8x1x512x16, .f32⟩
  | .hbm, ⟨36, _⟩ => ⟨S8x8x1x512x16, .f32⟩
  | .hbm, ⟨37, _⟩ => ⟨S_, .f32⟩
  | .hbm, ⟨38, _⟩ => ⟨S8x8x1, .f32⟩
  | .hbm, ⟨39, _⟩ => ⟨S8x8x1x1x1, .f32⟩
  | .hbm, ⟨40, _⟩ => ⟨S8x8x1x512x16, .f32⟩
  | .hbm, ⟨41, _⟩ => ⟨S8x8x1x512x16, .f32⟩
  | .hbm, ⟨42, _⟩ => ⟨S_, .i32⟩
  | .hbm, ⟨43, _⟩ => ⟨S8x512, .i32⟩
  | .hbm, ⟨44, _⟩ => ⟨S8x512, .i1⟩
  | .hbm, ⟨45, _⟩ => ⟨S_, .i32⟩
  | .hbm, ⟨46, _⟩ => ⟨S8x512, .i32⟩
  | .hbm, ⟨47, _⟩ => ⟨S8x512, .i32⟩
  | .hbm, ⟨48, _⟩ => ⟨S8x512, .i32⟩
  | .hbm, ⟨49, _⟩ => ⟨S8x512x1, .i32⟩
  | .hbm, ⟨50, _⟩ => ⟨S8x512x16x8x128, .f32⟩
  | .hbm, ⟨51, _⟩ => ⟨S8x8x128x1, .f32⟩
  | .hbm, ⟨52, _⟩ => ⟨S8x1x8x128, .f32⟩
  | _, _ => ⟨S8x1x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]
-- ==== Proof.Flat.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.RegionTalk
public import Idealize.ShloMosaic.Lib.Pipeline.TalkSites
public import Idealize.ShloMosaic.Lib.Pipeline.Regions
public import Idealize.ShloMosaic.Lib.Pipeline.Kit
public import Idealize.ShloMosaic.Lib.Tactic

@[expose] public section

/-! # The body as one straight program

The printed body is a chain of twenty-seven parts.  Here it is written once more as one program in continuation
style, in which each of the four sevenfold stages (the signals to the peers, the sends to them, the waits for what
they send, the waits for what was sent) is one step repeated over the list of the seven peers.  `body_eq` says that
it is the printed body. -/

namespace Cert.KernelIdeal.Talk

open Idealize Idealize.ShloMosaic Idealize.ShloMosaic.TcCoe Idealize.ShloMosaic.Pipeline
open Idealize.SL Idealize.SL.Sem
open Cert.KernelIdeal Cert.KernelIdeal.Gen

variable {F : FTy → Type} [FloatOps F] [Named F]

/-- A program of the kernel's. -/
abbrev PR (F : FTy → Type) := Prog (TpuEff nD τ sig (Elt F) Λ₀ .tc) PUnit

/-- One step repeated along a list, then the rest. -/
def rep {I : Type} (f : I → PR F → PR F) : List I → PR F → PR F
  | [], k => k
  | i :: l, k => f i (rep f l k)

/-! ## The buffers and semaphores by name -/

abbrev kHbm : Memref sig .tc .hbm S512x16x8x128 .f32 := Memref.whole main_arg1
abbrev vHbm : Memref sig .tc .hbm S512x16x8x128 .f32 := Memref.whole main_arg2
abbrev qBuf : Memref sig .tc .vmem S8x1x8x128 .f32 := win0_0.stage 0
abbrev btBuf : Memref sig .tc .vmem S8x512 .i32 := win0_1.stage 0
abbrev lnBuf : Memref sig .tc .vmem S8x1 .i32 := win0_2.stage 0
abbrev outBuf : Memref sig .tc .vmem S8x1x8x128 .f32 := win0_3.stage 0
abbrev kBuf : Memref sig .tc .vmem S64x16x8x128 .f32 := Memref.whole cc0_scratch0
abbrev vBuf : Memref sig .tc .vmem S64x16x8x128 .f32 := Memref.whole cc0_scratch1
abbrev sBuf : Memref sig .tc .vmem S8x8x130 .f32 := Memref.whole cc0_scratch2
abbrev rBuf : Memref sig .tc .vmem S8x8x130 .f32 := Memref.whole cc0_scratch3
abbrev pBuf : Memref sig .tc .vmem S8x8x130 .f32 := Memref.whole cc0_scratch4
abbrev gBuf : Memref sig .tc .vmem S8x8x8x130 .f32 := Memref.whole cc0_scratch5

/-- The sixty-four pages of a device's cache at the page offset `o`. -/
abbrev pages (a : Memref sig .tc .hbm S512x16x8x128 .f32) (o : Fin 4 → ℕ) (h : ∀ i, o i + S64x16x8x128.size i ≤ S512x16x8x128.size i) :
    Memref sig .tc .hbm S64x16x8x128 .f32 :=
  a.slice (Rect.unit (s := S512x16x8x128) o S64x16x8x128.size h) (fun _ => rfl)

/-- The slot of the gather buffer at the offset `o`. -/
abbrev slotAt (o : Fin 4 → ℕ) (h : ∀ i, o i + S1x8x8x130.size i ≤ S8x8x8x130.size i) : Memref sig .tc .vmem S8x8x130 .f32 :=
  (gBuf.slice (Rect.unit (s := S8x8x8x130) o S1x8x8x130.size h) (fun _ => rfl)).squeeze S8x8x130 squeezes_S1x8x8x130_S8x8x130

/-- The arrival semaphore of the gather buffer at the offset `o`. -/
abbrev gRecvAt (o : Fin 1 → ℕ) (h : ∀ i, o i + S1.size i ≤ S8.size i) : DmaSem sig :=
  ((cc0_scratch10.slice (Rect.unit (s := S8) o S1.size h)).squeeze S_ squeezes_S1_S_).sem

theorem inb7 (i : Fin 7) : ∀ a, (![i.val] : Fin 1 → ℕ) a + S1.size a ≤ S7.size a := by revert i; decide
theorem inb2 (i : Fin 2) : ∀ a, (![i.val] : Fin 1 → ℕ) a + S1.size a ≤ S2.size a := by revert i; decide

/-- The departure semaphore of the send to the `i`-th peer. -/
abbrev gSendAt (i : Fin 7) : DmaSem sig :=
  ((cc0_scratch9.slice (Rect.unit (s := S7) ![i.val] S1.size (inb7 i))).squeeze S_ squeezes_S1_S_).sem

/-- The semaphore of the copy of the keys (0) and of the values (1). -/
abbrev kvSem (i : Fin 2) : DmaSem sig :=
  ((cc0_scratch6.slice (Rect.unit (s := S2) ![i.val] S1.size (inb2 i))).squeeze S_ squeezes_S1_S_).sem

/-- The barrier semaphore as the body names it. -/
abbrev barSem : Sem sig := (SemArray.scalar (sig.barrier 0 rfl) : Sems sig S_).sem

/-- The device that the signal to the `i`-th peer names. -/
def sigDev (d : Dev nD) : Fin 7 → Dev nD
  | 0 => ⟨k0_dev2 d, k0_dev2_lt d⟩
  | 1 => ⟨k0_dev3 d, k0_dev3_lt d⟩
  | 2 => ⟨k0_dev4 d, k0_dev4_lt d⟩
  | 3 => ⟨k0_dev5 d, k0_dev5_lt d⟩
  | 4 => ⟨k0_dev6 d, k0_dev6_lt d⟩
  | 5 => ⟨k0_dev7 d, k0_dev7_lt d⟩
  | 6 => ⟨k0_dev8 d, k0_dev8_lt d⟩

/-- The device that the send to the `i`-th peer names. -/
def sndDev (d : Dev nD) : Fin 7 → Dev nD
  | 0 => ⟨k0_dev10 d, k0_dev10_lt d⟩
  | 1 => ⟨k0_dev11 d, k0_dev11_lt d⟩
  | 2 => ⟨k0_dev12 d, k0_dev12_lt d⟩
  | 3 => ⟨k0_dev13 d, k0_dev13_lt d⟩
  | 4 => ⟨k0_dev14 d, k0_dev14_lt d⟩
  | 5 => ⟨k0_dev15 d, k0_dev15_lt d⟩
  | 6 => ⟨k0_dev16 d, k0_dev16_lt d⟩

/-! ## The steps -/

/-- A signal of one unit to device `n`'s barrier. -/
def sigTo (n : Dev nD) (k : PR F) : PR F := .op (.semSignal (n.tc) barSem (1#32 : BitVec 32).toInt) fun _ => k

/-- The copy of a cache's pages into `b`. -/
def fetch (a : Memref sig .tc .hbm S512x16x8x128 .f32) (b : Memref sig .tc .vmem S64x16x8x128 .f32) (hb : b.IsWhole) (i : Fin 2) (d : Dev nD)
    (k : PR F) : PR F :=
  .op (.enqueueDma (pages a (k0_off1 d) (k0_off1_inb d)) (.here b) (.dma (kvSem i)) (View.wordExact_bits rfl) hb.wordExact ⟨Or.inl rfl, trivial⟩) fun _ => k

/-- The wait for it. -/
def fetched (a : Memref sig .tc .hbm S512x16x8x128 .f32) (b : Memref sig .tc .vmem S64x16x8x128 .f32) (hb : b.IsWhole) (i : Fin 2) (d : Dev nD)
    (k : PR F) : PR F :=
  .op (.waitDma2 (kvSem i) (pages a (k0_off1 d) (k0_off1_inb d)) b (View.wordExact_bits rfl) hb.wordExact) fun _ => k

/-- The send of the merged partial to the `i`-th peer. -/
def sendTo (d : Dev nD) (i : Fin 7) (k : PR F) : PR F :=
  .op (.enqueueDma pBuf (.remote (Dev.tc (sndDev d i)) (slotAt (k0_off2 d) (k0_off2_inb d)) (.dma (gSendAt i))) (.dma (gRecvAt (k0_off3 d) (k0_off3_inb d)))
    (Memref.isWhole_whole _).wordExact ((View.wordExact_bits rfl).reshape _ _) ⟨⟨rfl, Or.inl rfl⟩, trivial⟩) fun _ => k

/-- The wait for the partial of the `i`-th peer. -/
def recvFrom (d : Dev nD) (i : Fin 7) (k : PR F) : PR F :=
  .op (.waitDma2 (gRecvAt (k0_off4 d (BitVec.ofNat 32 i.val)) (k0_off4_inb d i)) pBuf (slotAt (k0_off5 d (BitVec.ofNat 32 i.val)) (k0_off5_inb d i))
    (Memref.isWhole_whole _).wordExact ((View.wordExact_bits rfl).reshape _ _)) fun _ => k

/-- The wait for the departure of the send to the `i`-th peer. -/
def sentTo (d : Dev nD) (i : Fin 7) (k : PR F) : PR F :=
  .op (.waitDma2 (gSendAt i) (slotAt (k0_off2 d) (k0_off2_inb d)) pBuf
    ((View.wordExact_bits rfl).reshape _ _) (Memref.isWhole_whole _).wordExact) fun _ => k

/-- A whole-buffer load. -/
abbrev ldP (a : Memref sig .tc .vmem S8x8x130 .f32) (k : Vec F S8x8x130 .f32 → PR F) : PR F :=
  .op (.load a (Rect.unit (s := S8x8x130) ![0, 0, 0] S8x8x130.size inb_S8x8x130_S8x8x130_0_0_0).toLoadRect (View.loadsAt_vmem h_S8x8x130)) k

/-- A whole-buffer store of a partial. -/
abbrev stP (a : Memref sig .tc .vmem S8x8x130 .f32) (x : Vec F S8x8x130 .f32) (k : PR F) : PR F :=
  .op (.store a (Rect.unit (s := S8x8x130) ![0, 0, 0] S8x8x130.size inb_S8x8x130_S8x8x130_0_0_0) x Finset.univ (View.stores_vmem_bits_univ h_S8x8x130 rfl) (.inl rfl)) fun _ => k

/-- The word of a device's second coordinate. -/
abbrev yWord (d : Dev nD) : BitVec 32 := Scalar.remsi (Scalar.divsi (Dev.word d) 4#32) 2#32

/-- The word of a device's rank in its group. -/
abbrev rWord (d : Dev nD) : BitVec 32 :=
  Scalar.addi (Scalar.muli (Scalar.remsi (Scalar.divsi (Dev.word d) 8#32) 2#32) 4#32) (Scalar.remsi (Scalar.divsi (Dev.word d) 1#32) 4#32)

/-- The last stretch: the result stored, then the waits for the departures. -/
noncomputable def tailP (d : Dev nD) (x : Vec F S8x8x8x130 .f32) : PR F :=
  .op (.load outBuf (Rect.unit (s := S8x1x8x128) ![0, 0, 0, 0] S8x1x8x128.size inb_S8x1x8x128_S8x1x8x128_0_0_0_0).toLoadRect (View.loadsAt_vmem h_S8x1x8x128)) fun _ =>
  .op (.store outBuf (Rect.unit (s := S8x1x8x128) ![0, 0, 0, 0] S8x1x8x128.size inb_S8x1x8x128_S8x1x8x128_0_0_0_0) (k0_pay20 x) Finset.univ (View.stores_vmem_bits_univ h_S8x1x8x128 rfl) (.inl rfl)) fun _ =>
  .op (.waitDma2 cc0_scratch7.sem rBuf sBuf (Memref.isWhole_whole _).wordExact (Memref.isWhole_whole _).wordExact) fun _ =>
  rep (sentTo d) [0, 1, 2, 3, 4, 5, 6] (.ret ⟨⟩)

/-- The gather: the copy into the own slot, the sends, and the waits for the eight slots. -/
noncomputable def gatherP (d : Dev nD) : PR F :=
  .op (.enqueueDma pBuf (.here (slotAt (k0_off2 d) (k0_off2_inb d))) (.dma cc0_scratch11.sem) (Memref.isWhole_whole _).wordExact ((View.wordExact_bits rfl).reshape _ _) ⟨Or.inl rfl, trivial⟩) fun _ =>
  rep (sendTo d) [0, 1, 2, 3, 4, 5, 6] <|
  .op (.waitDma2 cc0_scratch11.sem pBuf (slotAt (k0_off2 d) (k0_off2_inb d)) (Memref.isWhole_whole _).wordExact ((View.wordExact_bits rfl).reshape _ _)) fun _ =>
  rep (recvFrom d) [0, 1, 2, 3, 4, 5, 6] <|
  .op (.load gBuf (Rect.unit (s := S8x8x8x130) ![0, 0, 0, 0] S8x8x8x130.size inb_S8x8x8x130_S8x8x8x130_0_0_0_0).toLoadRect (View.loadsAt_vmem h_S8x8x8x130)) fun x =>
  tailP d x

/-- The exchange with the partner of the partial `o`, `mx`, `l`, and the merge. -/
noncomputable def swapP (d : Dev nD) (o : FVec F S8x8x128 .f32) (mx l : FVec F S8x8 .f32) (p : FVec F S8x8x130 .f32) : PR F :=
  ldP sBuf fun _ => stP sBuf (k0_pay11 p) <|
  .op (.semWait barSem (8#32 : BitVec 32).toInt) fun _ =>
  .op (.enqueueDma sBuf (.remote (Dev.tc (⟨k0_dev9 d, k0_dev9_lt d⟩ : Dev nD)) rBuf (.dma cc0_scratch7.sem)) (.dma cc0_scratch8.sem)
    (Memref.isWhole_whole _).wordExact (Memref.isWhole_whole _).wordExact ⟨⟨rfl, Or.inl rfl⟩, trivial⟩) fun _ =>
  .op (.waitDma2 cc0_scratch8.sem sBuf rBuf (Memref.isWhole_whole _).wordExact (Memref.isWhole_whole _).wordExact) fun _ =>
  .op (.load rBuf (Rect.unit (s := S8x8x130) ![0, 0, 128] S8x8x1.size inb_S8x8x130_S8x8x1_0_0_128).toLoadRect (View.loadsAt_vmem h_S8x8x1)) fun (x : Vec F S8x8x1 .f32) =>
  .op (.load rBuf (Rect.unit (s := S8x8x130) ![0, 0, 129] S8x8x1.size inb_S8x8x130_S8x8x1_0_0_129).toLoadRect (View.loadsAt_vmem h_S8x8x1)) fun (y : Vec F S8x8x1 .f32) =>
  .op (.load rBuf (Rect.unit (s := S8x8x130) ![0, 0, 0] S8x8x128.size inb_S8x8x130_S8x8x128_0_0_0).toLoadRect (View.loadsAt_vmem h_S8x8x128)) fun (z : Vec F S8x8x128 .f32) =>
  ldP pBuf fun _ => stP pBuf (k0_pay19 (k0_pay16 mx l x y) (k0_pay17 o mx x z) (k0_pay18 mx x)) <|
  gatherP d

/-- The local attention over the device's pages. -/
noncomputable def localP (d : Dev nD) : PR F :=
  fetch kHbm kBuf (Memref.isWhole_whole _) 0 d <| fetch vHbm vBuf (Memref.isWhole_whole _) 1 d <|
  .op (.load lnBuf (Rect.unit (s := S8x1) ![0, 0] S8x1.size inb_S8x1_S8x1_0_0).toLoadRect (View.loadsAt_vmem h_S8x1)) fun ln =>
  .op (.load btBuf (Rect.unit (s := S8x512) ![0, 0] S8x512.size inb_S8x512_S8x512_0_0).toLoadRect (View.loadsAt_vmem h_S8x512)) fun bt =>
  .op (.load qBuf (Rect.unit (s := S8x1x8x128) ![0, 0, 0, 0] S8x1x8x128.size inb_S8x1x8x128_S8x1x8x128_0_0_0_0).toLoadRect (View.loadsAt_vmem h_S8x1x8x128)) fun q =>
  fetched kHbm kBuf (Memref.isWhole_whole _) 0 d <|
  .op (.load kBuf (Rect.unit (s := S64x16x8x128) ![0, 0, 0, 0] S64x16x8x128.size inb_S64x16x8x128_S64x16x8x128_0_0_0_0).toLoadRect (View.loadsAt_vmem h_S64x16x8x128)) fun k =>
  fetched vHbm vBuf (Memref.isWhole_whole _) 1 d <|
  .op (.load vBuf (Rect.unit (s := S64x16x8x128) ![0, 0, 0, 0] S64x16x8x128.size inb_S64x16x8x128_S64x16x8x128_0_0_0_0).toLoadRect (View.loadsAt_vmem h_S64x16x8x128)) fun v =>
  swapP d (k0_pay7 (k0_pay1 (yWord d) (rWord d) ln bt) (k0_pay2 (F := F)) (k0_pay3 q) k v) (k0_pay8 (k0_pay2 (F := F)) (k0_pay3 q) k)
    (k0_pay9 (k0_pay1 (yWord d) (rWord d) ln bt) (k0_pay2 (F := F)) (k0_pay3 q) k) (k0_pay10 (k0_pay1 (yWord d) (rWord d) ln bt) (k0_pay2 (F := F)) (k0_pay3 q) k v)

/-- The whole body. -/
noncomputable def flat : PR F :=
  .op .deviceId fun d =>
  sigTo ⟨k0_dev1 d, k0_dev1_lt d⟩ <| rep (fun i => sigTo (sigDev d i)) [0, 1, 2, 3, 4, 5, 6] <| localP d

set_option maxRecDepth 65536 in
/-- The printed body is the straight one. -/
theorem body_eq : (Gen.bodyAt0 t0_0 : PR F) = flat := rfl

end Cert.KernelIdeal.Talk
-- ==== Proof.Protocol.lean ====
module

public import proofs.«01_k».proof.Proof.Flat
public import Idealize.ShloMosaic.Lib.ValueIdxCore
public import Idealize.ShloMosaic.Lib.ValueLayout
public import Idealize.ShloMosaic.Lib.Pipeline.BigSepL

@[expose] public noncomputable section

/-! # The protocol between the sixteen devices

Device `c` has a rank in `0..7` among the eight devices that share its second coordinate, its group, and one
partner, the device of the same rank in the other group.

* The barrier cell of `c` has one round of eight units.  Unit 0 is the partner's: with it comes the partner's receive
  buffer.  Unit `i + 1` comes from the device whose `i`-th peer is `c`: with it comes that device's gather slot for `c`'s
  rank.
* `c` sends its partial to its partner's receive buffer and then the merged partial to its slot in each peer's gather
  buffer.  A departure cell gives back what was read, an arrival cell gives what was written.
* The two copies of the cache pages and the copy into the own gather slot are local cells of one round.

Every cell has one round.  The payments are taken in the order the body makes them: the barrier units are of level 1,
the arrival at the partner of level 2, the arrivals at the peers of level 3, so each wait is for a level below what
is owed then. -/

namespace Cert.KernelIdeal.Talk

open Idealize Idealize.ShloMosaic Idealize.ShloMosaic.TcCoe Idealize.ShloMosaic.Pipeline Idealize.ShloMosaic.Rounds
open Idealize.ShloMosaic.TalkSites
open Idealize.SL Idealize.SL.RA Idealize.SL.BI Idealize.SL.Sem Idealize.SL.ProofMode
open scoped Idealize.SL.BI
open Idealize.SL.BI.BIBase Idealize.SL.BI.Laws
open Idealize.ShloMosaic.ValueIdx (ix3)
open Cert.KernelIdeal Cert.KernelIdeal.Gen

/-! ## Who talks to whom -/

/-- A device's rank in its group. -/
def rank (c : Dev nD) : Fin 8 := ⟨4 * (c.val / 8) + c.val % 4, by have := c.isLt; simp only [nD] at this; omega⟩
/-- The device of rank `r` in `c`'s group. -/
def mate (c : Dev nD) (r : Fin 8) : Dev nD := ⟨8 * (r.val / 4) + 4 * (c.val / 4 % 2) + r.val % 4, by have := r.isLt; simp only [nD]; omega⟩
/-- The partner. -/
def prt (c : Dev nD) : Dev nD := ⟨(8 * (c.val / 8) + c.val % 4 + 4) - 4 * (c.val / 4 % 2), by have := c.isLt; simp only [nD] at this ⊢; omega⟩
/-- The rank of the `i`-th peer of rank `r`. -/
def nxt (r : Fin 8) (i : Fin 7) : Fin 8 := ⟨(r.val + i.val + 1) % 8, by omega⟩
/-- The rank whose `i`-th peer has rank `r`. -/
def prv (r : Fin 8) (i : Fin 7) : Fin 8 := ⟨(r.val + 7 - i.val) % 8, by omega⟩
/-- The `i`-th peer. -/
def peer (c : Dev nD) (i : Fin 7) : Dev nD := mate c (nxt (rank c) i)

theorem rank_mate : ∀ c r, rank (mate c r) = r := by decide
theorem mate_mate : ∀ c r s, mate (mate c r) s = mate c s := by decide +kernel
theorem mate_rank : ∀ c, mate c (rank c) = c := by decide
theorem prt_prt : ∀ c, prt (prt c) = c := by decide
theorem nxt_ne : ∀ r i, nxt r i ≠ r := by decide
theorem prv_nxt : ∀ r i, prv (nxt r i) i = r := by decide
theorem nxt_prv : ∀ r i, nxt (prv r i) i = r := by decide
theorem rank_peer (c : Dev nD) (i : Fin 7) : rank (peer c i) = nxt (rank c) i := rank_mate _ _

theorem dev1_eq : ∀ c : Dev nD, (⟨k0_dev1 c, k0_dev1_lt c⟩ : Dev nD) = prt c := by decide +kernel
theorem dev9_eq : ∀ c : Dev nD, (⟨k0_dev9 c, k0_dev9_lt c⟩ : Dev nD) = prt c := by decide +kernel
theorem sigDev_eq : ∀ (c : Dev nD) (i : Fin 7), sigDev c i = peer c i := by decide +kernel
theorem sndDev_eq : ∀ (c : Dev nD) (i : Fin 7), sndDev c i = peer c i := by decide +kernel

/-! ## The semaphores by number -/

/-- The arrival semaphore of gather slot `r`. -/
def gR (r : Fin 8) : DmaSem sig := ⟨15 + r.val, by show 15 + r.val < 24; omega⟩
/-- The departure semaphore of the send to the `i`-th peer. -/
def gS (i : Fin 7) : DmaSem sig := ⟨8 + i.val, by show 8 + i.val < 24; omega⟩

theorem gSendAt_eq : ∀ i, gSendAt i = gS i := by decide +kernel
theorem gRecvAt_off3 : ∀ c : Dev nD, gRecvAt (k0_off3 c) (k0_off3_inb c) = gR (rank c) := by decide +kernel
theorem gRecvAt_off4 : ∀ (c : Dev nD) (i : Fin 7), gRecvAt (k0_off4 c (BitVec.ofNat 32 i.val)) (k0_off4_inb c i) = gR (nxt (rank c) i) := by decide +kernel
theorem kvSem_eq : ∀ i : Fin 2, kvSem i = (⟨4 + i.val, by show 4 + i.val < 24; omega⟩ : DmaSem sig) := by decide +kernel
theorem ySend_eq : (cc0_scratch7.sem : DmaSem sig) = (⟨6, by decide⟩ : DmaSem sig) := by decide +kernel
theorem yRecv_eq : (cc0_scratch8.sem : DmaSem sig) = (⟨7, by decide⟩ : DmaSem sig) := by decide +kernel
theorem self_eq : (cc0_scratch11.sem : DmaSem sig) = (⟨23, by decide⟩ : DmaSem sig) := by decide +kernel
theorem barSem_eq : (barSem : Sem sig) = barrier0 := by decide +kernel

/-! ## The gather slots -/

theorem slot_inb (r : Fin 8) : ∀ i, (![r.val, 0, 0, 0] : Fin 4 → ℕ) i + S1x8x8x130.size i ≤ S8x8x8x130.size i := by revert r; decide
/-- Gather slot `r`. -/
abbrev slot (r : Fin 8) : Memref sig .tc .vmem S8x8x130 .f32 := slotAt ![r.val, 0, 0, 0] (slot_inb r)

theorem slotAt_congr {o o' : Fin 4 → ℕ} (h) (h') (e : o = o') : slotAt o h = slotAt o' h' := by subst e; rfl
theorem slot_off2 (c : Dev nD) : slotAt (k0_off2 c) (k0_off2_inb c) = slot (rank c) := slotAt_congr _ _ (k0_off2_eq c)
theorem slot_off5 (c : Dev nD) (i : Fin 7) : slotAt (k0_off5 c (BitVec.ofNat 32 i.val)) (k0_off5_inb c i) = slot (nxt (rank c) i) :=
  slotAt_congr _ _ (k0_off5_eq c i)

/-! ## What the buffers hold -/

variable {F : FTy → Type} [FloatOps F] [Named F] (m : (ℓ : Loc nD τ sig) → Buf (Elt F) ℓ)

/-- The pages of the keys (and of the values) that a device holds and reads. -/
def kC (c : Dev nD) : Vec F S64x16x8x128 .f32 := (pages kHbm (k0_off1 c) (k0_off1_inb c)).view.read (Elt F) (m (c, main_arg1))
@[inherit_doc kC] def vC (c : Dev nD) : Vec F S64x16x8x128 .f32 := (pages vHbm (k0_off1 c) (k0_off1_inb c)).view.read (Elt F) (m (c, main_arg2))
/-- The queries, the page table and the lengths as staged. -/
def qC (c : Dev nD) : Vec F S8x1x8x128 .f32 := iblk m c 0 t0_0
@[inherit_doc qC] def btC (c : Dev nD) : Vec F S8x512 .i32 := iblk m c 1 t0_0
@[inherit_doc qC] def lnC (c : Dev nD) : Vec F S8x1 .i32 := iblk m c 2 t0_0
/-- The weights of the keys. -/
def wC (c : Dev nD) : FVec F S64x1024 .f32 := k0_pay1 (yWord c) (rWord c) (lnC m c) (btC m c)
/-- The partial of the device's pages. -/
def sC (c : Dev nD) : FVec F S8x8x130 .f32 := k0_pay11 (k0_pay10 (wC m c) (k0_pay2 (F := F)) (k0_pay3 (qC m c)) (kC m c) (vC m c))
/-- The parts of a partial: the weighted sum, the maximum and the sum of the weights. -/
def oPart (x : FVec F S8x8x130 .f32) : Vec F S8x8x128 .f32 :=
  View.readAt (Elt F) rBuf.view (Rect.unit (s := S8x8x130) ![0, 0, 0] S8x8x128.size inb_S8x8x130_S8x8x128_0_0_0).toLoadRect x
@[inherit_doc oPart] def mPart (x : FVec F S8x8x130 .f32) : Vec F S8x8x1 .f32 :=
  View.readAt (Elt F) rBuf.view (Rect.unit (s := S8x8x130) ![0, 0, 128] S8x8x1.size inb_S8x8x130_S8x8x1_0_0_128).toLoadRect x
@[inherit_doc oPart] def lPart (x : FVec F S8x8x130 .f32) : Vec F S8x8x1 .f32 :=
  View.readAt (Elt F) rBuf.view (Rect.unit (s := S8x8x130) ![0, 0, 129] S8x8x1.size inb_S8x8x130_S8x8x1_0_0_129).toLoadRect x
/-- The partial merged with the partner's. -/
def pC (c : Dev nD) : FVec F S8x8x130 .f32 :=
  k0_pay19
    (k0_pay16 (k0_pay8 (k0_pay2 (F := F)) (k0_pay3 (qC m c)) (kC m c)) (k0_pay9 (wC m c) (k0_pay2 (F := F)) (k0_pay3 (qC m c)) (kC m c))
      (mPart (sC m (prt c))) (lPart (sC m (prt c))))
    (k0_pay17 (k0_pay7 (wC m c) (k0_pay2 (F := F)) (k0_pay3 (qC m c)) (kC m c) (vC m c)) (k0_pay8 (k0_pay2 (F := F)) (k0_pay3 (qC m c)) (kC m c))
      (mPart (sC m (prt c))) (oPart (sC m (prt c))))
    (k0_pay18 (k0_pay8 (k0_pay2 (F := F)) (k0_pay3 (qC m c)) (kC m c)) (mPart (sC m (prt c))))
/-- The gather buffer once every slot has landed: in slot `r` the merged partial of the device of rank `r`. -/
def gC (c : Dev nD) : FVec F S8x8x8x130 .f32 := fun i => pC m (mate c (i 0)) (ix3 (i 1) (i 2) (i 3))
/-- The result. -/
def outC (c : Dev nD) : FVec F S8x1x8x128 .f32 := k0_pay20 (gC m c)

/-! ## The schedule -/

/-- The user's resources: the pipeline's component and the protocol's. -/
abbrev UU := UR sig nD τ × URounds (GSem nD τ sig) (Fin 8)

local notation "𝕄" => MT nD τ sig ℕ (Elt F) ℕ UU ℕ

/-- The pipeline's component. -/
abbrev EP : Emb (UR sig nD τ) (MT nD τ sig ℕ (Elt F) ℕ UU ℕ) := embL (nD := nD) (τ := τ) (sig := sig) (Ix := ℕ) (Name := ℕ) (Lvl := ℕ)
/-- The protocol's component. -/
abbrev ER : Emb (URounds (GSem nD τ sig) (Fin 8)) (MT nD τ sig ℕ (Elt F) ℕ UU ℕ) := embR (nD := nD) (τ := τ) (sig := sig) (Ix := ℕ) (Name := ℕ) (Lvl := ℕ)

/-- A device's cell at a semaphore. -/
abbrev cell (c : Dev nD) (sm : SemLoc sig) : GSem nD τ sig := ((c.tc : Thread nD τ), sm)
/-- A device's barrier cell. -/
abbrev barCell (c : Dev nD) : GSem nD τ sig := cell c (.reg barrier0)

/-- The units of a transfer of pages, and of a partial. -/
def Nk : ℕ := kBuf.view.dmaCredit
@[inherit_doc Nk] def Np : ℕ := rBuf.view.dmaCredit

/-- What is left of the merged partial after `n` shares of it are lent out: the whole, then always the right half. -/
def left : ℕ → PosShare TreeShare
  | 0 => fullShare
  | n + 1 => (left n).right
/-- The `n`-th share lent out. -/
def lent (n : ℕ) : PosShare TreeShare := (left n).left

/-- A whole buffer of a device at a share, and one slot of its gather buffer. -/
abbrev kPts (c : Dev nD) (f : Vec F S64x16x8x128 .f32) : sProp 𝕄 := kBuf.view.loc (c : Thread nD τ) ↦[kBuf.view.set]{fullShare} f
@[inherit_doc kPts] abbrev vPts (c : Dev nD) (f : Vec F S64x16x8x128 .f32) : sProp 𝕄 := vBuf.view.loc (c : Thread nD τ) ↦[vBuf.view.set]{fullShare} f
@[inherit_doc kPts] abbrev sPts (c : Dev nD) (f : FVec F S8x8x130 .f32) : sProp 𝕄 := sBuf.view.loc (c : Thread nD τ) ↦[sBuf.view.set]{fullShare} f
@[inherit_doc kPts] abbrev rPts (c : Dev nD) (f : FVec F S8x8x130 .f32) : sProp 𝕄 := rBuf.view.loc (c : Thread nD τ) ↦[rBuf.view.set]{fullShare} f
@[inherit_doc kPts] abbrev pPts (c : Dev nD) (q : PosShare TreeShare) (f : FVec F S8x8x130 .f32) : sProp 𝕄 := pBuf.view.loc (c : Thread nD τ) ↦[pBuf.view.set]{q} f
@[inherit_doc kPts] abbrev gPts (c : Dev nD) (r : Fin 8) (f : FVec F S8x8x8x130 .f32) : sProp 𝕄 := (slot r).view.loc (c : Thread nD τ) ↦[(slot r).view.set]{fullShare} f

/-- The pages that a device reads of its caches. -/
abbrev kSrc (c : Dev nD) : sProp 𝕄 :=
  (pages kHbm (k0_off1 c) (k0_off1_inb c)).view.loc (c : Thread nD τ) ↦[(pages kHbm (k0_off1 c) (k0_off1_inb c)).view.set]{fullShare} m (c, main_arg1)
@[inherit_doc kSrc] abbrev vSrc (c : Dev nD) : sProp 𝕄 :=
  (pages vHbm (k0_off1 c) (k0_off1_inb c)).view.loc (c : Thread nD τ) ↦[(pages vHbm (k0_off1 c) (k0_off1_inb c)).view.set]{fullShare} m (c, main_arg2)

/-- The peer number that a barrier unit's duty stands for (duty `i + 1` for the `i`-th). -/
def idx (d : Fin 8) : Fin 7 := ⟨(d.val + 6) % 7, by omega⟩

/-- What comes with a unit of `c`'s barrier: unit 0 the partner's receive buffer, unit `i + 1` the gather slot for `c`'s
    rank of the device whose `i`-th peer is `c`; with each, that the arrival cell it is for has begun. -/
def barPay (c : Dev nD) (d : Fin 8) : sProp 𝕄 :=
  if d = 0 then iprop((∃ f, rPts (F := F) (prt c) f) ∗ reached ER (cell (prt c) (.dma ⟨7, by decide⟩)) 0)
  else iprop((∃ f, gPts (F := F) (mate c (prv (rank c) (idx d))) (rank c) f) ∗ reached ER (cell (mate c (prv (rank c) (idx d))) (.dma (gR (rank c)))) 0)

/-- What comes with the completion of a transfer at `c`'s semaphore number `n`. -/
def dmaPay (c : Dev nD) (n : ℕ) : sProp 𝕄 :=
  if n = 4 then iprop(kPts c (kC m c) ∗ kSrc m c)
  else if n = 5 then iprop(vPts c (vC m c) ∗ vSrc m c)
  else if n = 6 then sPts c (sC m c)
  else if n = 7 then rPts c (sC m (prt c))
  else if n < 15 then pPts c (lent (n - 8)) (pC m c)
  else if n < 23 then gPts c (Fin.ofNat 8 (n - 15)) (gC m c)
  else iprop(gPts c (rank c) (gC m c) ∗ pPts c (left 7) (pC m c))

/-- The schedule: one round at every cell. -/
def Rd : Schedule (GSem nD τ sig) (Fin 8) 𝕄 where
  duties g r := if r = 0 ∧ g.1.2 = .tc then
      match g.2 with
      | .reg s => if s = barrier0 then Finset.univ else ∅
      | .dma s => if s.val < 4 ∨ s.val = 15 + (rank g.1.1).val then ∅ else {0}
    else ∅
  amount g _ _ := match g.2 with
    | .reg _ => 1
    | .dma s => if s.val = 4 ∨ s.val = 5 then Nk else Np
  payload g _ d := match g.2 with
    | .reg _ => barPay g.1.1 d
    | .dma s => dmaPay m g.1.1 s.val
  amount_pos g r d _ := by
    rcases g with ⟨t, s | s⟩
    · exact one_pos
    · show 0 < if s.val = 4 ∨ s.val = 5 then Nk else Np
      split <;> decide

/-! ### Its tables -/

variable (c : Dev nD)

theorem duties_bar : (Rd m).duties (barCell c) 0 = Finset.univ := rfl
theorem duties_dma (s : DmaSem sig) (h : ¬(s.val < 4 ∨ s.val = 15 + (rank c).val)) : (Rd m).duties (cell c (.dma s)) 0 = {0} := by unfold Rd; dsimp only; rw [if_pos ⟨rfl, rfl⟩, if_neg h]
theorem duties_own : (Rd m).duties (cell c (.dma (gR (rank c)))) 0 = ∅ := by unfold Rd; dsimp only; rw [if_pos ⟨rfl, rfl⟩]; exact if_pos (Or.inr rfl)
theorem duties_late (g : GSem nD τ sig) (r : ℕ) (h : 1 ≤ r) : (Rd m).duties g r = ∅ := if_neg fun e => by have := e.1; omega

theorem fresh_low {n : ℕ} (h : n < 24) (h4 : 4 ≤ n) (h15 : n < 15 ∨ n = 23) : ¬((⟨n, h⟩ : DmaSem sig).val < 4 ∨ (⟨n, h⟩ : DmaSem sig).val = 15 + (rank c).val) := by
  have := (rank c).isLt; simp only; omega
theorem fresh_gS (i : Fin 7) : ¬((gS i).val < 4 ∨ (gS i).val = 15 + (rank c).val) := by
  have := (rank c).isLt; have := i.isLt; simp only [gS]; omega
theorem fresh_gR {r : Fin 8} (h : r ≠ rank c) : ¬((gR r).val < 4 ∨ (gR r).val = 15 + (rank c).val) := by
  have : r.val ≠ (rank c).val := fun e => h (Fin.ext e)
  simp only [gR]; omega

theorem payload_gS (i : Fin 7) : (Rd m).payload (cell c (.dma (gS i))) 0 0 = pPts c (lent i.val) (pC m c) := by
  fin_cases i <;> rfl
theorem payload_gR (r : Fin 8) : (Rd m).payload (cell c (.dma (gR r))) 0 0 = gPts c r (gC m c) := by
  fin_cases r <;> rfl
theorem amount_gS (i : Fin 7) : (Rd m).amount (cell c (.dma (gS i))) 0 0 = Np := by fin_cases i <;> rfl
theorem amount_gR (r : Fin 8) : (Rd m).amount (cell c (.dma (gR r))) 0 0 = Np := by fin_cases r <;> rfl
theorem payload_bar_zero : (Rd m).payload (barCell c) 0 0 =
    iprop((∃ f, rPts (F := F) (prt c) f) ∗ reached ER (cell (prt c) (.dma ⟨7, by decide⟩)) 0) := rfl
theorem idx_succ : ∀ i : Fin 7, idx i.succ = i := by decide
theorem payload_bar_succ (i : Fin 7) : (Rd m).payload (barCell c) 0 i.succ =
    iprop((∃ f, gPts (F := F) (mate c (prv (rank c) i)) (rank c) f) ∗ reached ER (cell (mate c (prv (rank c) i)) (.dma (gR (rank c)))) 0) := by
  show barPay c i.succ = _
  rw [barPay, if_neg (Fin.succ_ne_zero i), idx_succ]

instance : ∀ g r d, BI.Storable (upEmb : UEmb _ 𝕄) ((Rd m).payload g r d) := fun g r d => by
  rcases g with ⟨⟨c, p⟩, s | s⟩
  · show BI.Storable _ (barPay c d)
    unfold barPay; split <;> infer_instance
  · show BI.Storable _ (dmaPay m c s.val)
    unfold dmaPay; repeat' split
    all_goals infer_instance

/-! ## Dues and tokens -/

/-- The peers' numbers. -/
abbrev L7 : List (Fin 7) := [0, 1, 2, 3, 4, 5, 6]

/-- The payments of the signals to the peers, and of the sends to them. -/
def sigDue : List (Fin 7) → List (Pay nD τ sig) := List.map fun i => (barCell (peer c i), 1, 1)
@[inherit_doc sigDue] def sndDue : List (Fin 7) → List (Pay nD τ sig) := List.map fun i => (cell (peer c i) (.dma (gR (rank c))), 3, Np)
/-- What is owed once the signals are made. -/
def dueS : List (Pay nD τ sig) := (cell (prt c) (.dma ⟨7, by decide⟩), 2, Np) :: sndDue c L7
/-- Everything a device pays other devices, in the order it pays. -/
def due : List (Pay nD τ sig) := (barCell (prt c), 1, 1) :: (sigDue c L7 ++ dueS c)

/-- What is owed to a device. -/
def dueTo : List (Pay nD τ sig) :=
  List.replicate 8 (barCell c, 1, 1) ++ (cell c (.dma ⟨7, by decide⟩), 2, Np) :: L7.map fun i => (cell c (.dma (gR (nxt (rank c) i))), 3, Np)

theorem credOf_perm : ∀ c : Dev nD, (credOf due c).Perm (dueTo c) := by decide +kernel

theorem tallyL_perm {l l' : List (Pay nD τ sig)} (h : l.Perm l') : tallyL l = tallyL l' := by
  induction h with
  | nil => rfl
  | cons x _ ih => exact congrArg (_ + ·) ih
  | swap x y l => exact add_left_comm _ _ _
  | trans _ _ h₁ h₂ => exact h₁.trans h₂

/-- A duty, by its cell and number; the round is always the first. -/
abbrev tk (g : GSem nD τ sig) (d : Fin 8) : GSem nD τ sig × ℕ × Fin 8 := (g, 0, d)

/-- The duties a device pays. -/
def tokL : List (GSem nD τ sig × ℕ × Fin 8) :=
  tk (barCell (prt c)) 0 :: (L7.map fun i => tk (barCell (peer c i)) i.succ)
    ++ tk (cell c (.dma ⟨4, by decide⟩)) 0 :: tk (cell c (.dma ⟨5, by decide⟩)) 0 :: tk (cell c (.dma ⟨6, by decide⟩)) 0
      :: tk (cell (prt c) (.dma ⟨7, by decide⟩)) 0 :: tk (cell c (.dma ⟨23, by decide⟩)) 0
      :: (L7.map fun i => tk (cell c (.dma (gS i))) 0) ++ (L7.map fun i => tk (cell (peer c i) (.dma (gR (rank c)))) 0)

theorem tokL_nodup : ∀ c : Dev nD, (tokL c).Nodup := by decide +kernel

/-- Who pays a duty. -/
def payer (x : GSem nD τ sig × ℕ × Fin 8) : Dev nD :=
  match x.1.2 with
  | .reg _ => if x.2.2 = 0 then prt x.1.1.1 else mate x.1.1.1 (prv (rank x.1.1.1) (idx x.2.2))
  | .dma s => if s.val = 7 then prt x.1.1.1 else if s.val < 15 ∨ s.val = 23 then x.1.1.1 else mate x.1.1.1 (Fin.ofNat 8 (s.val - 15))

theorem payer_tok : ∀ c : Dev nD, ∀ x ∈ tokL c, payer x = c := by decide +kernel

/-- The scoped semaphores, numbered. -/
def osem (k : Fin 20) : SemLoc sig := .dma ⟨4 + k.val, by show 4 + k.val < 24; omega⟩

/-- The kernel's cells: one barrier cell a device and twenty scoped cells. -/
def fam : Fam nD τ sig (Fin 8) 1 where
  bar := .reg barrier0
  dorm _ := Finset.univ.image osem
  toks c _ := (tokL c).toFinset
  semKey _ := 0
  hsem _ _ _ := Subsingleton.elim _ _
  hbar _ h := by obtain ⟨k, -, e⟩ := Finset.mem_image.mp h; cases e
  tokKey x := (payer x, 0)
  htok c j x hx := Prod.ext (payer_tok c x (List.mem_toFinset.mp hx)) (Subsingleton.elim _ _)

theorem mem_dorm (k : Fin 20) : osem k ∈ fam.dorm 0 := Finset.mem_image_of_mem _ (Finset.mem_univ _)

end Cert.KernelIdeal.Talk
-- ==== Proof.Steps.lean ====
module

public import proofs.«01_k».proof.Proof.Protocol

@[expose] public noncomputable section

/-! # The body's steps under the protocol

One lemma a kind of step, and for the four sevenfold stages its repetition along a list of peers. -/

namespace Cert.KernelIdeal.Talk

open Idealize Idealize.ShloMosaic Idealize.ShloMosaic.TcCoe Idealize.ShloMosaic.Pipeline Idealize.ShloMosaic.Rounds
open Idealize.ShloMosaic.TalkSites Idealize.ShloMosaic.SiteBlocks
open Idealize.SL Idealize.SL.RA Idealize.SL.BI Idealize.SL.Sem Idealize.SL.ProofMode
open scoped Idealize.SL.BI
open Idealize.SL.BI.BIBase Idealize.SL.BI.Laws
open Idealize.ShloMosaic.ValueIdx
open Cert.KernelIdeal Cert.KernelIdeal.Gen

variable {F : FTy → Type} [FloatOps F] [Named F] (m : (ℓ : Loc nD τ sig) → Buf (Elt F) ℓ)

local notation "𝕄" => MT nD τ sig ℕ (Elt F) ℕ UU ℕ

/-- No loop of the kernel's carries a variant. -/
abbrev 𝒱₀ : Variants := Variants.none

/-- The weakest precondition of a program on device `c`. -/
abbrev WP (c : Dev nD) (p : PR F) (Q : PUnit.{1} → sProp 𝕄) : sProp 𝕄 := wp frame (wpE (defs₀ (F := F)) 𝒱₀ (c : Thread nD τ) none) Set.univ p Q

/-- What a device owes, whatever it has waited for. -/
def ow (c : Dev nD) (l : List (Pay nD τ sig)) : sProp 𝕄 := iprop(∃ W, owes (c : Thread nD τ) (tallyL l) W)

/-- A list's chain, its first element apart. -/
theorem chain_cons {I : Type} (i : I) (l : List I) (Φ : I → sProp 𝕄) : bigSepL (i :: l) Φ = iprop(Φ i ∗ bigSepL l Φ) := bigSepL_cons i l Φ

variable (κ : GSem nD τ sig → ℕ) (c : Dev nD)

/-- The invariants of every cell and the levels: what stays throughout. -/
def ctx : sProp 𝕄 := iprop(fam.cellInvs ER (Rd m) κ ∗ (levAts (L 4) lv) ∗ bigSep Finset.univ fun n : Dev nD => reached ER (barCell n) 0)

instance : BI.Persistent (ctx m κ) := by unfold ctx; infer_instance

theorem ctx_bar (n : Dev nD) : ctx m κ ⊢ cellInv ER (Rd m) (κ (barCell n)) (barCell n) := by
  unfold ctx; iintro ⟨#H, -, -⟩; iapply (fam.cellInvs_bar ER (Rd m) κ n); iexact H
theorem ctx_dma (n : Dev nD) (s : DmaSem sig) (h : 4 ≤ s.val) : ctx m κ ⊢ cellInv ER (Rd m) (κ (cell n (.dma s))) (cell n (.dma s)) := by
  have hs : (.dma s : SemLoc sig) ∈ fam.dorm 0 := by
    have e : (.dma s : SemLoc sig) = osem ⟨s.val - 4, by have := s.isLt; have : s.val < 24 := this; omega⟩ := by
      unfold osem; congr 1; apply Fin.ext; show s.val = 4 + (s.val - 4); omega
    rw [e]; exact mem_dorm _
  unfold ctx; iintro ⟨#H, -, -⟩; iapply (fam.cellInvs_dorm ER (Rd m) κ n hs); iexact H
theorem ctx_reached (n : Dev nD) : ctx m κ ⊢ reached ER (barCell n) 0 := by
  have h : (bigSep Finset.univ fun n : Dev nD => reached ER (barCell n) 0) ⊢ (reached ER (barCell n) 0 : sProp 𝕄) := bigSep_elim (Finset.mem_univ n)
  unfold ctx; iintro ⟨-, -, #H⟩; iapply h; iexact H
theorem ctx_mayWait (sm : SemLoc sig) (i : ℕ) (hi : i < 4) (l : List (Pay nD τ sig)) (hl : ∀ x ∈ l, x.1.1.2 = .tc ∧ i < x.2.1 ∧ x.2.1 < 4) :
    ctx m κ ⊢ MayWait (c : Thread nD τ) sm i (tallyL l) := by
  have h := mayWait_addL (Val := Elt F) (U := UU) (N := 4) (e := 4) hi le_rfl (above_zero 4 4) c sm l hl
  rw [addL_eq, zero_add] at h
  unfold ctx; iintro ⟨-, #H, -⟩; iapply h; iexact H

/-! ## Signals -/

theorem sig_step {n dst : Dev nD} (hn : n = dst) (d : Fin 8) (l : List (Pay nD τ sig)) (k : PR F) (Kt : PUnit.{1} → sProp 𝕄) :
    iprop(ctx m κ ∗ ow c ((barCell dst, 1, 1) :: l) ∗ dutyTok ER (barCell dst) 0 d ∗ (Rd m).payload (barCell dst) 0 d)
      ⊢ iprop((ow c l -∗ WP c k Kt) -∗ WP c (sigTo n k) Kt) := by
  subst hn
  unfold ow
  have hd : d ∈ (Rd m).duties (barCell n) 0 := Finset.mem_univ d
  have hk : (Rd m).amount (barCell n) 0 d = 1 := rfl
  have hO : tallyL ((barCell n, 1, 1) :: l) = tallyL l + tallyAt (barCell n) 1 1 := add_comm _ _
  iintro ⟨#Hc, ⟨%W, HO⟩, Ht, Hp⟩ Hk
  unfold sigTo
  rw [barSem_eq]
  iapply (Rounds.wp_signal 𝒱₀ ER (Rd m) (c : Thread nD τ) none (dst := (n : Thread nD τ)) (κ := κ (barCell n)) (d := d) (k' := 1)
      hd hk 1 (tallyL l) hO) $$ [HO Ht Hp]
  · isplitr; · iapply (ctx_bar m κ n); iexact Hc
    isplitl [HO]; · iexact HO
    isplitl [Ht]; · iexact Ht
    isplitl [Hp]; · iexact Hp
    iapply (ctx_reached m κ n); iexact Hc
  iintro HO
  iapply Hk
  iexists W; iexact HO

/-- What the signal to the `i`-th peer spends. -/
def sigRes (i : Fin 7) : sProp 𝕄 := iprop(dutyTok ER (barCell (peer c i)) 0 i.succ ∗ (Rd m).payload (barCell (peer c i)) 0 i.succ)

theorem rep_sig (rest : List (Pay nD τ sig)) (k : PR F) (Kt : PUnit.{1} → sProp 𝕄) : ∀ l : List (Fin 7),
    iprop(ctx m κ ∗ ow c (sigDue c l ++ rest) ∗ bigSepL l (sigRes m c)) ⊢ iprop((ow c rest -∗ WP c k Kt) -∗ WP c (rep (fun i => sigTo (sigDev c i)) l k) Kt)
  | [] => by
    iintro ⟨-, HO, -⟩ Hk
    iapply Hk; iexact HO
  | i :: l => by
    rw [chain_cons]
    unfold sigRes
    iintro ⟨#Hc, HO, ⟨Ht, Hp⟩, Hl⟩ Hk
    iapply (sig_step m κ c (sigDev_eq c i) i.succ (sigDue c l ++ rest) (rep (fun i => sigTo (sigDev c i)) l k) Kt) $$ [HO Ht Hp]
    · isplitr; · iexact Hc
      isplitl [HO]; · iexact HO
      isplitl [Ht] <;> iassumption
    iintro HO
    iapply (rep_sig rest k Kt l) $$ [HO Hl]
    · isplitr; · iexact Hc
      isplitl [HO]; · iexact HO
      unfold sigRes; iexact Hl
    iexact Hk

/-! ## A wait for a transfer -/

theorem dma_wait (s : DmaSem sig) (h4 : 4 ≤ s.val) (hs : ¬(s.val < 4 ∨ s.val = 15 + (rank c).val)) (i N : ℕ) (hi : i < 4) (l : List (Pay nD τ sig))
    (hl : ∀ x ∈ l, x.1.1.2 = .tc ∧ i < x.2.1 ∧ x.2.1 < 4) (hN : (Rd m).amount (cell c (.dma s)) 0 0 = N)
    {sp sp' : Space} {sh sh' : Shape} {e e' : EltTy} {src : Memref sig .tc sp sh e} {dst : Memref sig .tc sp' sh' e'} {h1} {h2} {k : PR F}
    (hd : dst.view.dmaCredit = N) (Kt : PUnit.{1} → sProp 𝕄) :
    iprop(ctx m κ ∗ cred (tallyAt (cell c (.dma s)) i N) ∗ ow c l ∗ atPos ER (cell c (.dma s)) 0 ∅ 0)
      ⊢ iprop((ow c l ∗ atPos ER (cell c (.dma s)) 1 ∅ 0 ∗ (Rd m).payload (cell c (.dma s)) 0 0 -∗ WP c k Kt)
        -∗ WP c (.op (.waitDma2 s src dst h1 h2) fun _ => k) Kt) := by
  have hw : (Rd m).expect (cell c (.dma s)) 0 = N := by
    unfold Schedule.expect Schedule.amountOf; rw [duties_dma m c s hs, Finset.sum_singleton, hN]
  unfold ow
  iintro ⟨#Hc, HC, ⟨%W, HO⟩, Ha⟩ Hk
  subst hd
  iapply (Rounds.wp_wait_rest_token 𝒱₀ ER (Rd m) (c : Thread nD τ) none (κ := κ (cell c (.dma s)))
      (wpE_waitDma2_eq 𝒱₀ (c : Thread nD τ) none Set.univ) (Set.mem_univ _) i (O := tallyL l) (W := W) (R := 0) (m := 0) (T := ∅)
      (by rw [hw, zero_add])) $$ [HC HO Ha]
  · isplitr; · iapply (ctx_dma m κ c s h4); iexact Hc
    isplitl [HC]; · iexact HC
    isplitl [HO]; · iexact HO
    isplitr; · iapply (ctx_mayWait m κ c (.dma s) i hi l hl); iexact Hc
    iexact Ha
  rw [duties_dma m c s hs, Finset.sdiff_empty, bigSep_singleton]
  iintro ⟨HO, Ha, -, Hp⟩
  iapply Hk
  isplitl [HO]; · iexists _; iexact HO
  isplitl [Ha] <;> iassumption

/-! ## The copies of the cache pages -/

theorem lowK : 4 < 24 := by decide

/-- A local transfer into a whole buffer, paying the one duty of its cell. -/
theorem copy_step {sp sp' : Space} {sh : Shape} {e : EltTy} {src : Memref sig .tc sp sh e} {dst : Memref sig .tc sp' sh e} (s : DmaSem sig)
    (h4 : 4 ≤ s.val) (hs : ¬(s.val < 4 ∨ s.val = 15 + (rank c).val)) (N : ℕ) (hN : (Rd m).amount (cell c (.dma s)) 0 0 = N)
    (hd : dst.view.dmaCredit = N) {q : PosShare TreeShare} {fs : Buf (Elt F) (src.view.loc (c : Thread nD τ))} {fd : Buf (Elt F) (dst.view.loc (c : Thread nD τ))}
    (hpay : iprop((dst.view.loc (c : Thread nD τ) ↦[dst.view.set]{fullShare} (dst.view.write (Elt F) fd (src.view.read (Elt F) fs) Finset.univ))
      ∗ (src.view.loc (c : Thread nD τ) ↦[src.view.set]{q} fs)) ⊢ (Rd m).payload (cell c (.dma s)) 0 0)
    {h1} {h2} {h3} {k : PR F} (Kt : PUnit.{1} → sProp 𝕄) :
    iprop(ctx m κ ∗ (src.view.loc (c : Thread nD τ) ↦[src.view.set]{q} fs) ∗ (dst.view.loc (c : Thread nD τ) ↦[dst.view.set]{fullShare} fd)
        ∗ dutyTok ER (cell c (.dma s)) 0 0 ∗ reached ER (cell c (.dma s)) 0)
      ⊢ iprop((cred (tallyAt (cell c (.dma s)) 0 N) -∗ WP c k Kt) -∗ WP c (.op (.enqueueDma src (.here dst) (.dma s) h1 h2 h3) fun _ => k) Kt) := by
  have hm : (0 : Fin 8) ∈ (Rd m).duties (cell c (.dma s)) 0 := by rw [duties_dma m c s hs]; exact Finset.mem_singleton_self _
  iintro ⟨#Hc, Hs, Hd, Ht, Hr⟩ Hk
  iapply (Rounds.wp_copy_pointsTo 𝒱₀ ER (Rd m) (c : Thread nD τ) none (κ := κ (cell c (.dma s))) hm 0 N hd hN hpay) $$ [Hs Hd Ht Hr]
  · isplitr; · iapply (ctx_dma m κ c s h4); iexact Hc
    isplitl [Hs]; · iexact Hs
    isplitl [Hd]; · iexact Hd
    isplitl [Ht] <;> iassumption
  iexact Hk

/-! ## The sends -/

/-- A send to another device, paying the duty of the departure cell here and that of the arrival cell there. -/
theorem send_step {sh : Shape} {e : EltTy} {src dst : Memref sig .tc .vmem sh e} {n c' : Dev nD} (hn : n = c') (s s' : DmaSem sig)
    (h4 : 4 ≤ s.val) (h4' : 4 ≤ s'.val) (hs : ¬(s.val < 4 ∨ s.val = 15 + (rank c).val)) (hs' : ¬(s'.val < 4 ∨ s'.val = 15 + (rank c').val))
    (i : ℕ) (N : ℕ) (hN : (Rd m).amount (cell c (.dma s)) 0 0 = N) (hN' : (Rd m).amount (cell c' (.dma s')) 0 0 = N)
    (hd : dst.view.dmaCredit = N) {q : PosShare TreeShare} {fs : Buf (Elt F) (src.view.loc (c : Thread nD τ))} {fd : Buf (Elt F) (dst.view.loc (c' : Thread nD τ))}
    (hpay : (src.view.loc (c : Thread nD τ) ↦[src.view.set]{q} fs) ⊢ (Rd m).payload (cell c (.dma s)) 0 0)
    (hpay' : (dst.view.loc (c' : Thread nD τ) ↦[dst.view.set]{fullShare} (dst.view.write (Elt F) fd (src.view.read (Elt F) fs) Finset.univ))
      ⊢ (Rd m).payload (cell c' (.dma s')) 0 0)
    (l : List (Pay nD τ sig)) {hsc : dst.view.ref.isScScratch = false} {h1} {h2} {h3} {k : PR F} (Kt : PUnit.{1} → sProp 𝕄) :
    iprop(ctx m κ ∗ (src.view.loc (c : Thread nD τ) ↦[src.view.set]{q} fs) ∗ (dst.view.loc (c' : Thread nD τ) ↦[dst.view.set]{fullShare} fd)
        ∗ ow c ((cell c' (.dma s'), i, N) :: l) ∗ dutyTok ER (cell c (.dma s)) 0 0 ∗ reached ER (cell c (.dma s)) 0
        ∗ dutyTok ER (cell c' (.dma s')) 0 0 ∗ reached ER (cell c' (.dma s')) 0)
      ⊢ iprop((cred (tallyAt (cell c (.dma s)) 0 N) ∗ ow c l -∗ WP c k Kt)
        -∗ WP c (.op (.enqueueDma src (.remote (Dev.tc n) dst (.dma s) hsc) (.dma s') h1 h2 h3) fun _ => k) Kt) := by
  subst hn
  have hm : (0 : Fin 8) ∈ (Rd m).duties (cell c (.dma s)) 0 := by rw [duties_dma m c s hs]; exact Finset.mem_singleton_self _
  have hm' : (0 : Fin 8) ∈ (Rd m).duties (cell n (.dma s')) 0 := by rw [duties_dma m n s' hs']; exact Finset.mem_singleton_self _
  unfold ow
  iintro ⟨#Hc, Hs, Hd, ⟨%W, HO⟩, Ht, Hr, Ht', Hr'⟩ Hk
  iapply (Rounds.wp_send_pointsTo 𝒱₀ ER (Rd m) (c : Thread nD τ) none (κ₁ := κ (cell c (.dma s))) (κ₂ := κ (cell n (.dma s'))) hm hm' i 0 N hd hN hN'
    (tallyL l) (add_comm _ _) hpay hpay') $$ [Hs Hd HO Ht Hr Ht' Hr']
  · isplitr; · iapply (ctx_dma m κ c s h4); iexact Hc
    isplitr; · iapply (ctx_dma m κ n s' h4'); iexact Hc
    isplitl [Hs]; · iexact Hs
    isplitl [Hd]; · iexact Hd
    isplitl [HO]; · iexact HO
    isplitl [Ht]; · iexact Ht
    isplitl [Hr]; · iexact Hr
    isplitl [Ht'] <;> iassumption
  iintro ⟨HC, HO⟩
  iapply Hk
  isplitl [HC]; · iexact HC
  iexists W; iexact HO

/-! ### What a slot holds once it is written -/

/-- Where slot `r`'s view puts an index. -/
theorem slot_emb (r : Fin 8) (j : S8x8x130.Idx) : (slot r).view.emb j = ix4 r (j 0) (j 1) (j 2) := by
  have h : (Shape.reshapeEquiv (squeezes_S1x8x8x130_S8x8x130).numel_eq (ix3 (j 0) (j 1) (j 2)) : S1x8x8x130.Idx) = ix4 (⟨0, Nat.one_pos⟩ : Fin 1) (j 0) (j 1) (j 2) :=
    reshapeEquiv_ix3_1abc _ _ _ _
  conv_lhs => rw [eq_ix3 j]
  show (Rect.unit (s := S8x8x8x130) ![r.val, 0, 0, 0] S1x8x8x130.size (slot_inb r)).emb (Shape.reshapeEquiv _ (ix3 (j 0) (j 1) (j 2))) = _
  refine (congrArg (Rect.unit (s := S8x8x8x130) ![r.val, 0, 0, 0] S1x8x8x130.size (slot_inb r)).emb h).trans ?_
  funext a; apply Fin.ext
  match a with
  | ⟨0, _⟩ => show r.val + 1 * 0 = r.val; omega
  | ⟨1, _⟩ => show 0 + 1 * (j 0).val = (j 0).val; omega
  | ⟨2, _⟩ => show 0 + 1 * (j 1).val = (j 1).val; omega
  | ⟨3, _⟩ => show 0 + 1 * (j 2).val = (j 2).val; omega

/-- A merged partial landed in slot `r` of a device of its group is what the whole buffer is to hold there. -/
theorem slot_landed (n : Dev nD) (r : Fin 8) (f : FVec F S8x8x8x130 .f32) :
    ((slot r).view.loc (n : Thread nD τ) ↦[(slot r).view.set]{fullShare} ((slot r).view.write (Elt F) f (pBuf.view.read (Elt F) (pC m (mate n r))) Finset.univ) : sProp 𝕄)
      = gPts n r (gC m n) := by
  refine pointsTo_congr fun i hi => ?_
  obtain ⟨j, -, rfl⟩ := Finset.mem_map.mp hi
  refine (View.write_emb_of_mem (v := (slot r).view) (Val := Elt F) f (pBuf.view.read (Elt F) (pC m (mate n r))) (Finset.mem_univ j)).trans ?_
  rw [slot_emb]
  exact congrArg (pC m (mate n r)) (eq_ix3 j)

/-! ## The sevenfold stages of the gather -/

/-- What the send to the `i`-th peer spends: a share of the merged partial, the slot there for this device's rank, the two duties. -/
def sndRes (i : Fin 7) : sProp 𝕄 :=
  iprop(pPts c (lent i.val) (pC m c) ∗ (∃ f, gPts (F := F) (peer c i) (rank c) f)
    ∗ dutyTok ER (cell c (.dma (gS i))) 0 0 ∗ reached ER (cell c (.dma (gS i))) 0
    ∗ dutyTok ER (cell (peer c i) (.dma (gR (rank c)))) 0 0 ∗ reached ER (cell (peer c i) (.dma (gR (rank c)))) 0)

theorem credit_pBuf : pBuf.view.dmaCredit = Np := rfl
theorem credit_slot (r : Fin 8) : (slot r).view.dmaCredit = Np := rfl

/-- The send with its device, its slot and its semaphores left open. -/
def sendG (n : Dev nD) (o : Fin 4 → ℕ) (h : ∀ a, o a + S1x8x8x130.size a ≤ S8x8x8x130.size a) (s s' : DmaSem sig) (k : PR F) : PR F :=
  .op (.enqueueDma pBuf (.remote (Dev.tc n) (slotAt o h) (.dma s)) (.dma s')
    (Memref.isWhole_whole _).wordExact ((View.wordExact_bits rfl).reshape _ _) ⟨⟨rfl, Or.inl rfl⟩, trivial⟩) fun _ => k
theorem sendG_congr (n : Dev nD) {o o' : Fin 4 → ℕ} (e : o = o') (h h') (s s' : DmaSem sig) (k : PR F) : sendG n o h s s' k = sendG n o' h' s s' k := by subst e; rfl
theorem sendTo_eq (i : Fin 7) (k : PR F) : sendTo c i k = sendG (peer c i) ![(rank c).val, 0, 0, 0] (slot_inb _) (gS i) (gR (rank c)) k := by
  rw [← sndDev_eq, ← gSendAt_eq, ← gRecvAt_off3]; exact sendG_congr _ (k0_off2_eq c) (k0_off2_inb c) _ _ _ _

/-- The wait for an arrival with its slot and its semaphore left open. -/
def recvG (o : Fin 4 → ℕ) (h : ∀ a, o a + S1x8x8x130.size a ≤ S8x8x8x130.size a) (s : DmaSem sig) (k : PR F) : PR F :=
  .op (.waitDma2 s pBuf (slotAt o h) (Memref.isWhole_whole _).wordExact ((View.wordExact_bits rfl).reshape _ _)) fun _ => k
theorem recvG_congr {o o' : Fin 4 → ℕ} (e : o = o') (h h') (s : DmaSem sig) (k : PR F) : recvG o h s k = recvG o' h' s k := by subst e; rfl
theorem recvFrom_eq (i : Fin 7) (k : PR F) : recvFrom c i k = recvG ![(nxt (rank c) i).val, 0, 0, 0] (slot_inb _) (gR (nxt (rank c) i)) k := by
  rw [← gRecvAt_off4]; exact recvG_congr (k0_off5_eq c i) (k0_off5_inb c i) _ _ _

theorem sentTo_eq (i : Fin 7) (k : PR F) : sentTo c i k = .op (.waitDma2 (gS i) (slotAt (k0_off2 c) (k0_off2_inb c)) pBuf
    ((View.wordExact_bits rfl).reshape _ _) (Memref.isWhole_whole _).wordExact) fun _ => k := by
  rw [← gSendAt_eq]; rfl

theorem rep_send (k : PR F) (Kt : PUnit.{1} → sProp 𝕄) : ∀ l : List (Fin 7),
    iprop(ctx m κ ∗ ow c (sndDue c l) ∗ bigSepL l (sndRes m c))
      ⊢ iprop((ow c [] ∗ (bigSepL l fun i => cred (tallyAt (cell c (.dma (gS i))) 0 Np)) -∗ WP c k Kt) -∗ WP c (rep (sendTo c) l k) Kt)
  | [] => by
    iintro ⟨-, HO, -⟩ Hk
    iapply Hk
    isplitl [HO]; · iexact HO
    iempintro
  | i :: l => by
    rw [chain_cons, chain_cons, show rep (sendTo c) (i :: l) k = sendTo c i (rep (sendTo c) l k) from rfl, sendTo_eq]
    have hne : rank c ≠ rank (peer c i) := fun e => nxt_ne (rank c) i (by rw [← rank_peer, ← e])
    unfold sndRes
    iintro ⟨#Hc, HO, ⟨Hp, ⟨%f, Hg⟩, Ht, Hr, Ht', Hr'⟩, Hl⟩ Hk
    iapply (send_step m κ c (rfl : peer c i = peer c i) (gS i) (gR (rank c)) (by simp only [gS]; omega) (by simp only [gR]; omega) (fresh_gS c i) (fresh_gR (peer c i) hne) 3 Np
      (amount_gS m c i) (amount_gR m (peer c i) (rank c)) (credit_slot _) (Entails.of_eq (payload_gS m c i).symm)
      (Entails.of_eq (by rw [payload_gR]; have h := slot_landed m (peer c i) (rank c) f; unfold peer at h ⊢; rw [mate_mate, mate_rank] at h; exact h)) (sndDue c l) Kt) $$ [Hp Hg HO Ht Hr Ht' Hr']
    · isplitr; · iexact Hc
      isplitl [Hp]; · iexact Hp
      isplitl [Hg]; · iexact Hg
      isplitl [HO]; · iexact HO
      isplitl [Ht]; · iexact Ht
      isplitl [Hr]; · iexact Hr
      isplitl [Ht'] <;> iassumption
    iintro ⟨HC, HO⟩
    iapply (rep_send k Kt l) $$ [HO Hl]
    · isplitr; · iexact Hc
      isplitl [HO]; · iexact HO
      unfold sndRes; iexact Hl
    iintro ⟨HO, HCs⟩
    iapply Hk
    isplitl [HO]; · iexact HO
    isplitl [HC] <;> iassumption

/-- The wait for the partial of the `i`-th peer, and its repetition. -/
theorem rep_recv (k : PR F) (Kt : PUnit.{1} → sProp 𝕄) : ∀ l : List (Fin 7),
    iprop(ctx m κ ∗ ow c [] ∗ bigSepL l (fun i => iprop(cred (tallyAt (cell c (.dma (gR (nxt (rank c) i)))) 3 Np) ∗ atPos ER (cell c (.dma (gR (nxt (rank c) i)))) 0 ∅ 0)))
      ⊢ iprop((ow c [] ∗ (bigSepL l fun i => iprop(atPos ER (cell c (.dma (gR (nxt (rank c) i)))) 1 ∅ 0 ∗ gPts c (nxt (rank c) i) (gC m c))) -∗ WP c k Kt)
        -∗ WP c (rep (recvFrom c) l k) Kt)
  | [] => by
    iintro ⟨-, HO, -⟩ Hk
    iapply Hk
    isplitl [HO]; · iexact HO
    iempintro
  | i :: l => by
    rw [chain_cons, chain_cons, show rep (recvFrom c) (i :: l) k = recvFrom c i (rep (recvFrom c) l k) from rfl, recvFrom_eq]
    iintro ⟨#Hc, HO, ⟨HC, Ha⟩, Hl⟩ Hk
    iapply (dma_wait m κ c (gR (nxt (rank c) i)) (by simp only [gR]; omega) (fresh_gR c (nxt_ne _ _)) 3 Np (by decide) [] (fun x hx => absurd hx (List.not_mem_nil))
      (amount_gR m c _) (credit_slot _) Kt) $$ [HC HO Ha]
    · isplitr; · iexact Hc
      isplitl [HC]; · iexact HC
      isplitl [HO] <;> iassumption
    rw [payload_gR]
    iintro ⟨HO, Ha, Hp⟩
    iapply (rep_recv k Kt l) $$ [HO Hl]
    · isplitr; · iexact Hc
      isplitl [HO] <;> iassumption
    iintro ⟨HO, Hs⟩
    iapply Hk
    isplitl [HO]; · iexact HO
    isplitl [Ha Hp]
    · isplitl [Ha] <;> iassumption
    iexact Hs

/-- The wait for the departure of the send to the `i`-th peer, and its repetition. -/
theorem rep_sent (k : PR F) (Kt : PUnit.{1} → sProp 𝕄) : ∀ l : List (Fin 7),
    iprop(ctx m κ ∗ ow c [] ∗ bigSepL l (fun i => iprop(cred (tallyAt (cell c (.dma (gS i))) 0 Np) ∗ atPos ER (cell c (.dma (gS i))) 0 ∅ 0)))
      ⊢ iprop((ow c [] ∗ (bigSepL l fun i => iprop(atPos ER (cell c (.dma (gS i))) 1 ∅ 0 ∗ pPts c (lent i.val) (pC m c))) -∗ WP c k Kt)
        -∗ WP c (rep (sentTo c) l k) Kt)
  | [] => by
    iintro ⟨-, HO, -⟩ Hk
    iapply Hk
    isplitl [HO]; · iexact HO
    iempintro
  | i :: l => by
    rw [chain_cons, chain_cons, show rep (sentTo c) (i :: l) k = sentTo c i (rep (sentTo c) l k) from rfl, sentTo_eq]
    iintro ⟨#Hc, HO, ⟨HC, Ha⟩, Hl⟩ Hk
    iapply (dma_wait m κ c (gS i) (by simp only [gS]; omega) (fresh_gS c i) 0 Np (by decide) [] (fun x hx => absurd hx (List.not_mem_nil))
      (amount_gS m c i) credit_pBuf Kt) $$ [HC HO Ha]
    · isplitr; · iexact Hc
      isplitl [HC]; · iexact HC
      isplitl [HO] <;> iassumption
    rw [payload_gS]
    iintro ⟨HO, Ha, Hp⟩
    iapply (rep_sent k Kt l) $$ [HO Hl]
    · isplitr; · iexact Hc
      isplitl [HO] <;> iassumption
    iintro ⟨HO, Hs⟩
    iapply Hk
    isplitl [HO]; · iexact HO
    isplitl [Ha Hp]
    · isplitl [Ha] <;> iassumption
    iexact Hs

end Cert.KernelIdeal.Talk
-- ==== Proof.Body.lean ====
module

public import proofs.«01_k».proof.Proof.Steps

@[expose] public noncomputable section

/-! # The body's run

The straight program is run under the protocol, stage by stage from the last to the first: each stage's lemma says
what the rest of the body needs and what it leaves. -/

namespace Cert.KernelIdeal.Talk

open Idealize Idealize.ShloMosaic Idealize.ShloMosaic.TcCoe Idealize.ShloMosaic.Pipeline Idealize.ShloMosaic.Rounds
open Idealize.ShloMosaic.TalkSites Idealize.ShloMosaic.SiteBlocks
open Idealize.SL Idealize.SL.RA Idealize.SL.BI Idealize.SL.Sem Idealize.SL.ProofMode
open scoped Idealize.SL.BI
open Idealize.SL.BI.BIBase Idealize.SL.BI.Laws
open Idealize.ShloMosaic.ValueIdx
open Cert.KernelIdeal Cert.KernelIdeal.Gen

variable {F : FTy → Type} [FloatOps F] [Named F] (m : (ℓ : Loc nD τ sig) → Buf (Elt F) ℓ)

local notation "𝕄" => MT nD τ sig ℕ (Elt F) ℕ UU ℕ

/-- The semaphores of the copies of the keys and of the values, of the departure to and the arrival from the partner, and
    of the copy into the own slot. -/
abbrev sK : DmaSem sig := ⟨4, by decide⟩
@[inherit_doc sK] abbrev sV : DmaSem sig := ⟨5, by decide⟩
@[inherit_doc sK] abbrev sY : DmaSem sig := ⟨6, by decide⟩
@[inherit_doc sK] abbrev sR : DmaSem sig := ⟨7, by decide⟩
@[inherit_doc sK] abbrev sG : DmaSem sig := ⟨23, by decide⟩

variable (κ : GSem nD τ sig → ℕ) (c : Dev nD)

theorem fK : ¬((sK).val < 4 ∨ (sK).val = 15 + (rank c).val) := fresh_low c (by decide) (by decide) (by decide)
theorem fV : ¬((sV).val < 4 ∨ (sV).val = 15 + (rank c).val) := fresh_low c (by decide) (by decide) (by decide)
theorem fY : ¬((sY).val < 4 ∨ (sY).val = 15 + (rank c).val) := fresh_low c (by decide) (by decide) (by decide)
theorem fR : ¬((sR).val < 4 ∨ (sR).val = 15 + (rank c).val) := fresh_low c (by decide) (by decide) (by decide)
theorem fG : ¬((sG).val < 4 ∨ (sG).val = 15 + (rank c).val) := fresh_low c (by decide) (by decide) (by decide)

/-- Before and after a cell's one round. -/
abbrev at0 (s : DmaSem sig) : sProp 𝕄 := atPos ER (cell c (.dma s)) 0 ∅ 0
@[inherit_doc at0] abbrev at1 (s : DmaSem sig) : sProp 𝕄 := atPos ER (cell c (.dma s)) 1 ∅ 0
/-- The credit of one transfer. -/
abbrev crd (s : DmaSem sig) (i N : ℕ) : sProp 𝕄 := cred (tallyAt (cell c (.dma s)) i N)

theorem chain_sep {I : Type} (l : List I) (Φ Ψ : I → sProp 𝕄) : bigSepL l (fun i => iprop(Φ i ∗ Ψ i)) = iprop(bigSepL l Φ ∗ bigSepL l Ψ) := by
  induction l with
  | nil => exact (BI.equiv_iff.mp emp_sep).symm
  | cons i l ih =>
    rw [chain_cons, chain_cons, chain_cons, ih]
    refine BI.Entails.antisymm (show (iprop((Φ i ∗ Ψ i) ∗ bigSepL l Φ ∗ bigSepL l Ψ) : sProp 𝕄) ⊢ iprop((Φ i ∗ bigSepL l Φ) ∗ Ψ i ∗ bigSepL l Ψ) from ?_)
      (show (iprop((Φ i ∗ bigSepL l Φ) ∗ Ψ i ∗ bigSepL l Ψ) : sProp 𝕄) ⊢ iprop((Φ i ∗ Ψ i) ∗ bigSepL l Φ ∗ bigSepL l Ψ) from ?_)
    · iintro ⟨⟨A, B⟩, C, D⟩
      isplitl [A C]
      · isplitl [A] <;> iassumption
      isplitl [B] <;> iassumption
    · iintro ⟨⟨A, B⟩, C, D⟩
      isplitl [A C]
      · isplitl [A] <;> iassumption
      isplitl [B] <;> iassumption

/-! ## Loads and stores -/

theorem ld_step {sh : Shape} {e : EltTy} {a : Memref sig .tc .vmem sh e} {r : LoadRect sh} {hl : a.view.LoadsAt r} {q : PosShare TreeShare}
    {f : Buf (Elt F) (a.view.loc (c : Thread nD τ))} {g : r.shape.Idx → Elt F e} (hr : a.view.readAt (Elt F) r f = g) {k : (r.shape.Idx → Elt F e) → PR F}
    (Kt : PUnit.{1} → sProp 𝕄) :
    (a.view.loc (c : Thread nD τ) ↦[a.view.set]{q} f)
      ⊢ iprop(((a.view.loc (c : Thread nD τ) ↦[a.view.set]{q} f) -∗ WP c (k g) Kt) -∗ WP c (.op (.load a r hl) k) Kt) := by
  subst hr; exact wp_load 𝒱₀ (c : Thread nD τ) none Set.univ (View.setOn_subset_set _ _)

theorem st_step {sh : Shape} {e : EltTy} {a : Memref sig .tc .vmem sh e} {r : Rect sh} {w : r.shape.Idx → Elt F e} {Mk : Finset r.shape.Idx} {hx} {hm}
    {f g : Buf (Elt F) (a.view.loc (c : Thread nD τ))} (hr : (a.access r).write (Elt F) f w Mk = g) {k : PUnit → PR F} (Kt : PUnit.{1} → sProp 𝕄) :
    (a.view.loc (c : Thread nD τ) ↦[a.view.set]{fullShare} f)
      ⊢ iprop(((a.view.loc (c : Thread nD τ) ↦[a.view.set]{fullShare} g) -∗ WP c (k ⟨⟩) Kt) -∗ WP c (.op (.store a r w Mk hx hm) k) Kt) := by
  subst hr
  have hS : (a.access r).setOn Mk ⊆ a.view.set := ((a.access r).setOn_subset_set Mk).trans (a.view.set_slice_subset r)
  exact wp_store 𝒱₀ (c : Thread nD τ) none Set.univ (m := a) (r := r) (S := a.view.set) hS

theorem zero2 : (![0, 0] : Fin 2 → ℕ) = fun _ => 0 := by decide
theorem zero3 : (![0, 0, 0] : Fin 3 → ℕ) = fun _ => 0 := by decide
theorem zero4 : (![0, 0, 0, 0] : Fin 4 → ℕ) = fun _ => 0 := by decide

/-! ## The shares of the merged partial, and the gather buffer's slots -/

theorem lend (n : ℕ) (f : FVec F S8x8x130 .f32) : (pPts c (left n) f : sProp 𝕄) ⊣⊢ iprop(pPts c (lent n) f ∗ pPts c (left (n + 1)) f) :=
  pointsTo_share (PosShare.mem_left_op_right _)

theorem lend7 (f : FVec F S8x8x130 .f32) : (pPts c fullShare f : sProp 𝕄) ⊢ iprop((bigSepL L7 fun i => pPts c (lent i.val) f) ∗ pPts c (left 7) f) := by
  rw [chain_cons, chain_cons, chain_cons, chain_cons, chain_cons, chain_cons, chain_cons]
  rw [show (pPts c fullShare f : sProp 𝕄) = pPts c (left 0) f from rfl]
  iintro H
  ihave H := (lend c 0 f).1 $$ H; icases H with ⟨H0, H⟩
  ihave H := (lend c 1 f).1 $$ H; icases H with ⟨H1, H⟩
  ihave H := (lend c 2 f).1 $$ H; icases H with ⟨H2, H⟩
  ihave H := (lend c 3 f).1 $$ H; icases H with ⟨H3, H⟩
  ihave H := (lend c 4 f).1 $$ H; icases H with ⟨H4, H⟩
  ihave H := (lend c 5 f).1 $$ H; icases H with ⟨H5, H⟩
  ihave H := (lend c 6 f).1 $$ H; icases H with ⟨H6, H⟩
  isplitr [H]
  · isplitl [H0]; · iexact H0
    isplitl [H1]; · iexact H1
    isplitl [H2]; · iexact H2
    isplitl [H3]; · iexact H3
    isplitl [H4]; · iexact H4
    isplitl [H5]; · iexact H5
    isplitl [H6]; · iexact H6
    iempintro
  iexact H

theorem unlend7 (f : FVec F S8x8x130 .f32) : iprop((bigSepL L7 fun i => pPts c (lent i.val) f) ∗ pPts c (left 7) f) ⊢ (pPts c fullShare f : sProp 𝕄) := by
  rw [chain_cons, chain_cons, chain_cons, chain_cons, chain_cons, chain_cons, chain_cons]
  rw [show (pPts c fullShare f : sProp 𝕄) = pPts c (left 0) f from rfl]
  iintro ⟨⟨H0, H1, H2, H3, H4, H5, H6, -⟩, H⟩
  iapply (lend c 0 f).2; isplitl [H0]; · iexact H0
  iapply (lend c 1 f).2; isplitl [H1]; · iexact H1
  iapply (lend c 2 f).2; isplitl [H2]; · iexact H2
  iapply (lend c 3 f).2; isplitl [H3]; · iexact H3
  iapply (lend c 4 f).2; isplitl [H4]; · iexact H4
  iapply (lend c 5 f).2; isplitl [H5]; · iexact H5
  iapply (lend c 6 f).2; isplitl [H6]; · iexact H6
  iexact H

/-- The whole gather buffer. -/
abbrev gAll (f : FVec F S8x8x8x130 .f32) : sProp 𝕄 := gBuf.view.loc (c : Thread nD τ) ↦[gBuf.view.set]{fullShare} f

theorem mem_slot (r : Fin 8) (i : S8x8x8x130.Idx) : i ∈ (slot r).view.set ↔ i 0 = r := by
  constructor
  · intro h
    obtain ⟨j, -, rfl⟩ := Finset.mem_map.mp h
    exact congrFun (slot_emb r j) 0
  · rintro rfl
    exact Finset.mem_map.mpr ⟨ix3 (i 1) (i 2) (i 3), Finset.mem_univ _, (slot_emb _ _).trans (eq_ix4 i).symm⟩

theorem gAll_slots (f : FVec F S8x8x8x130 .f32) : (gAll c f : sProp 𝕄) = iprop(gPts c (rank c) f ∗ bigSepL L7 fun i => gPts c (nxt (rank c) i) f) := by
  have hS : (gBuf.view.set : Finset S8x8x8x130.Idx) = Finset.univ.biUnion fun r => ((slot r).view.set : Finset S8x8x8x130.Idx) := by
    ext i
    refine ⟨fun _ => Finset.mem_biUnion.mpr ⟨i 0, Finset.mem_univ _, (mem_slot _ _).mpr rfl⟩, fun _ => ?_⟩
    exact Finset.mem_map.mpr ⟨i, Finset.mem_univ _, rfl⟩
  have h1 : (gAll c f : sProp 𝕄) = bigSep Finset.univ fun r : Fin 8 => gPts c r f := by
    refine (congrArg (fun S : Finset S8x8x8x130.Idx => (gBuf.view.loc (c : Thread nD τ) ↦[S]{fullShare} f : sProp 𝕄)) hS).trans ?_
    refine pointsTo_biUnion _ _ fun r _ r' _ h => Finset.disjoint_left.mpr fun i hi hi' => h ?_
    rw [← (mem_slot r i).mp hi, ← (mem_slot r' i).mp hi']
  rw [h1, bigSep_univ_eq_bigSepL (rank c :: L7.map (nxt (rank c))) (by generalize rank c = r; revert r; decide) (by generalize rank c = r; revert r; decide), chain_cons, bigSepL_map]

theorem gAll_open : iprop(∃ f, gAll (F := F) c f) ⊢ (iprop((∃ f, gPts (F := F) c (rank c) f) ∗ bigSepL L7 fun i => iprop(∃ f, gPts (F := F) c (nxt (rank c) i) f)) : sProp 𝕄) := by
  iintro ⟨%f, H⟩
  ihave H := (Entails.of_eq (gAll_slots c f)) $$ H
  icases H with ⟨H, Hs⟩
  isplitl [H]; · iexists f; iexact H
  iapply (bigSepL_mono (fun i _ => by iintro H; iexists f; iexact H)) $$ Hs

end Cert.KernelIdeal.Talk
-- ==== Proof.Run.lean ====
module

public import proofs.«01_k».proof.Proof.Body

@[expose] public noncomputable section

/-! # The body's stages, from the last to the first -/

namespace Cert.KernelIdeal.Talk

open Idealize Idealize.ShloMosaic Idealize.ShloMosaic.TcCoe Idealize.ShloMosaic.Pipeline Idealize.ShloMosaic.Rounds
open Idealize.ShloMosaic.TalkSites Idealize.ShloMosaic.SiteBlocks
open Idealize.SL Idealize.SL.RA Idealize.SL.BI Idealize.SL.Sem Idealize.SL.ProofMode
open scoped Idealize.SL.BI
open Idealize.SL.BI.BIBase Idealize.SL.BI.Laws
open Idealize.ShloMosaic.ValueIdx
open Cert.KernelIdeal Cert.KernelIdeal.Gen

variable {F : FTy → Type} [FloatOps F] [Named F] (m : (ℓ : Loc nD τ sig) → Buf (Elt F) ℓ)

local notation "𝕄" => MT nD τ sig ℕ (Elt F) ℕ UU ℕ

variable (κ : GSem nD τ sig → ℕ) (c : Dev nD)

/-- The staged blocks. -/
abbrev oPts (f : Vec F S8x1x8x128 .f32) : sProp 𝕄 := outBuf.view.loc (c : Thread nD τ) ↦[outBuf.view.set]{fullShare} f
@[inherit_doc oPts] abbrev qPts (f : Vec F S8x1x8x128 .f32) : sProp 𝕄 := qBuf.view.loc (c : Thread nD τ) ↦[qBuf.view.set]{fullShare} f
@[inherit_doc oPts] abbrev btPts (f : Vec F S8x512 .i32) : sProp 𝕄 := btBuf.view.loc (c : Thread nD τ) ↦[btBuf.view.set]{fullShare} f
@[inherit_doc oPts] abbrev lnPts (f : Vec F S8x1 .i32) : sProp 𝕄 := lnBuf.view.loc (c : Thread nD τ) ↦[lnBuf.view.set]{fullShare} f

/-- What only the last stretch needs. -/
def tailIn : sProp 𝕄 := iprop((∃ f, oPts (F := F) c f) ∗ at0 c sY)

/-- What the last stretch leaves. -/
def tailOut (x : Vec F S8x8x8x130 .f32) : sProp 𝕄 := iprop(oPts c (k0_pay20 x) ∗ at1 c sY ∗ sPts c (sC m c))

theorem credit_sBuf : sBuf.view.dmaCredit = Np := rfl
theorem credit_rBuf : rBuf.view.dmaCredit = Np := rfl

theorem ret_step (Kt : PUnit.{1} → sProp 𝕄) : Kt ⟨⟩ ⊢ WP c (.ret ⟨⟩) Kt := by
  unfold WP; rw [wp_ret]; exact fupd_intro

theorem out_put (f w : Vec F S8x1x8x128 .f32) :
    (outBuf.access (Rect.unit (s := S8x1x8x128) ![0, 0, 0, 0] S8x1x8x128.size inb_S8x1x8x128_S8x1x8x128_0_0_0_0)).write (Elt F) f w Finset.univ = w :=
  Memref.write_access_unit_zero_univ (Elt F) cc0_stg3_0 zero4 _ f w

theorem tail_run (x : Vec F S8x8x8x130 .f32) (Kt : PUnit.{1} → sProp 𝕄) :
    iprop(ctx m κ ∗ ow c [] ∗ crd c sY 0 Np ∗ tailIn c ∗ bigSepL L7 (fun i => iprop(crd c (gS i) 0 Np ∗ at0 c (gS i))))
      ⊢ iprop((ow c [] ∗ tailOut m c x ∗ (bigSepL L7 fun i => iprop(at1 c (gS i) ∗ pPts c (lent i.val) (pC m c))) -∗ Kt ⟨⟩)
        -∗ WP c (tailP c x) Kt) := by
  unfold tailIn tailOut
  iintro ⟨#Hc, HO, HC, ⟨⟨%f, Ho⟩, Ha⟩, HL⟩ Hk
  unfold tailP
  iapply (ld_step c (Memref.readAt_unit_zero (Elt F) _ zero4 _ f) Kt) $$ [Ho]
  · iexact Ho
  iintro Ho
  iapply (st_step c (out_put f (k0_pay20 x)) Kt) $$ [Ho]
  · iexact Ho
  iintro Ho
  rw [ySend_eq]
  iapply (dma_wait m κ c sY (by decide) (fY c) 0 Np (by decide) [] (fun x hx => absurd hx List.not_mem_nil) rfl credit_sBuf Kt) $$ [HC HO Ha]
  · isplitr; · iexact Hc
    isplitl [HC]; · iexact HC
    isplitl [HO] <;> iassumption
  iintro ⟨HO, Ha, Hs⟩
  iapply (rep_sent m κ c (.ret ⟨⟩) Kt L7) $$ [HO HL]
  · isplitr; · iexact Hc
    isplitl [HO] <;> iassumption
  iintro ⟨HO, HL⟩
  iapply (ret_step c Kt)
  iapply Hk
  isplitl [HO]; · iexact HO
  isplitl [Ho Ha Hs]
  · isplitl [Ho]; · iexact Ho
    isplitl [Ha]; · iexact Ha
    iapply (show ((Rd m).payload (cell c (.dma sY)) 0 0 : sProp 𝕄) ⊢ sPts c (sC m c) from .rfl) $$ Hs
  iexact HL

/-! ## The gather -/

/-- What each send to a peer needs besides its share of the partial. -/
def sndIn (i : Fin 7) : sProp 𝕄 :=
  iprop((∃ f, gPts (F := F) (peer c i) (rank c) f) ∗ dutyTok ER (cell c (.dma (gS i))) 0 0 ∗ reached ER (cell c (.dma (gS i))) 0
    ∗ dutyTok ER (cell (peer c i) (.dma (gR (rank c)))) 0 0 ∗ reached ER (cell (peer c i) (.dma (gR (rank c)))) 0)

/-- What the gather needs besides, and what it leaves. -/
def gatherIn : sProp 𝕄 :=
  iprop((∃ f, gPts (F := F) c (rank c) f) ∗ (dutyTok ER (cell c (.dma sG)) 0 0 ∗ reached ER (cell c (.dma sG)) 0 ∗ at0 c sG)
    ∗ (bigSepL L7 fun i => iprop(crd c (gR (nxt (rank c) i)) 3 Np ∗ at0 c (gR (nxt (rank c) i)))) ∗ (bigSepL L7 fun i => at0 c (gS i)) ∗ tailIn c)
@[inherit_doc gatherIn] def gatherOut : sProp 𝕄 :=
  iprop(ow c [] ∗ tailOut m c (gC m c) ∗ (bigSepL L7 fun i => at1 c (gS i)) ∗ pPts c fullShare (pC m c) ∗ at1 c sG
    ∗ (bigSepL L7 fun i => at1 c (gR (nxt (rank c) i))) ∗ gAll c (gC m c))

/-- The copy into the own slot with the slot left open. -/
def selfG (o : Fin 4 → ℕ) (h : ∀ a, o a + S1x8x8x130.size a ≤ S8x8x8x130.size a) (s : DmaSem sig) (k : PR F) : PR F :=
  .op (.enqueueDma pBuf (.here (slotAt o h)) (.dma s) (Memref.isWhole_whole _).wordExact ((View.wordExact_bits rfl).reshape _ _) ⟨Or.inl rfl, trivial⟩) fun _ => k
theorem selfG_congr {o o' : Fin 4 → ℕ} (e : o = o') (h h') (s : DmaSem sig) (k : PR F) : selfG o h s k = selfG o' h' s k := by subst e; rfl

theorem gatherP_eq : (gatherP c : PR F) = selfG ![(rank c).val, 0, 0, 0] (slot_inb _) sG (rep (sendTo c) L7 <|
    recvG ![(rank c).val, 0, 0, 0] (slot_inb _) sG <| rep (recvFrom c) L7 <|
    .op (.load gBuf (Rect.unit (s := S8x8x8x130) ![0, 0, 0, 0] S8x8x8x130.size inb_S8x8x8x130_S8x8x8x130_0_0_0_0).toLoadRect (View.loadsAt_vmem h_S8x8x8x130)) fun x =>
      tailP c x) := by
  have e : k0_off2 c = ![(rank c).val, 0, 0, 0] := k0_off2_eq c
  rw [show sG = (cc0_scratch11.sem : DmaSem sig) from self_eq.symm, ← selfG_congr e (k0_off2_inb c), ← recvG_congr e (k0_off2_inb c)]; rfl

theorem self_landed (f : FVec F S8x8x8x130 .f32) :
    iprop(((slot (rank c)).view.loc (c : Thread nD τ) ↦[(slot (rank c)).view.set]{fullShare} ((slot (rank c)).view.write (Elt F) f (pBuf.view.read (Elt F) (pC m c)) Finset.univ))
      ∗ (pBuf.view.loc (c : Thread nD τ) ↦[pBuf.view.set]{left 7} pC m c)) ⊢ ((Rd m).payload (cell c (.dma sG)) 0 0 : sProp 𝕄) := by
  have h := slot_landed m c (rank c) f
  rw [mate_rank] at h
  rw [h]; exact .rfl

theorem gather_run (Kt : PUnit.{1} → sProp 𝕄) :
    iprop(ctx m κ ∗ ow c (sndDue c L7) ∗ pPts c fullShare (pC m c) ∗ bigSepL L7 (sndIn c) ∗ crd c sY 0 Np ∗ gatherIn c)
      ⊢ iprop((gatherOut m c -∗ Kt ⟨⟩) -∗ WP c (gatherP c) Kt) := by
  unfold gatherIn gatherOut
  iintro ⟨#Hc, HO, Hp, HS, HY, ⟨%f, Hg⟩, ⟨Ht, Hr, Ha⟩, HR, HA, HT⟩ Hk
  ihave Hp := (lend7 c (pC m c)) $$ Hp; icases Hp with ⟨HPs, Hp⟩
  rw [gatherP_eq]
  unfold selfG
  iapply (copy_step m κ c sG (by decide) (fG c) Np rfl (credit_slot _) (self_landed m c f) Kt) $$ [Hp Hg Ht Hr]
  · isplitr; · iexact Hc
    isplitl [Hp]; · iexact Hp
    isplitl [Hg]; · iexact Hg
    isplitl [Ht] <;> iassumption
  iintro HC
  iapply (rep_send m κ c _ Kt L7) $$ [HO HPs HS]
  · isplitr; · iexact Hc
    isplitl [HO]; · iexact HO
    iapply (show iprop((bigSepL L7 fun i => pPts c (lent i.val) (pC m c)) ∗ bigSepL L7 (sndIn c)) ⊢ (bigSepL L7 (sndRes m c) : sProp 𝕄) from
      Entails.of_eq (chain_sep L7 _ _).symm)
    isplitl [HPs] <;> iassumption
  iintro ⟨HO, HCs⟩
  unfold recvG
  iapply (dma_wait m κ c sG (by decide) (fG c) 0 Np (by decide) [] (fun x hx => absurd hx List.not_mem_nil) rfl (credit_slot _) Kt) $$ [HC HO Ha]
  · isplitr; · iexact Hc
    isplitl [HC]; · iexact HC
    isplitl [HO] <;> iassumption
  iintro ⟨HO, Ha, Hpay⟩
  ihave Hpay := (show ((Rd m).payload (cell c (.dma sG)) 0 0 : sProp 𝕄) ⊢ iprop(gPts c (rank c) (gC m c) ∗ pPts c (left 7) (pC m c)) from .rfl) $$ Hpay
  icases Hpay with ⟨Hg, Hp⟩
  iapply (rep_recv m κ c _ Kt L7) $$ [HO HR]
  · isplitr; · iexact Hc
    isplitl [HO]; · iexact HO
    iexact HR
  iintro ⟨HO, HR⟩
  ihave HR := (Entails.of_eq (chain_sep L7 _ _)) $$ HR
  icases HR with ⟨HR, HG⟩
  ihave HG := (show iprop(gPts c (rank c) (gC m c) ∗ bigSepL L7 fun i => gPts c (nxt (rank c) i) (gC m c)) ⊢ (gAll c (gC m c) : sProp 𝕄) from
    Entails.of_eq (gAll_slots c (gC m c)).symm) $$ [Hg HG]
  · isplitl [Hg] <;> iassumption
  iapply (ld_step c (Memref.readAt_unit_zero (Elt F) cc0_scratch5 zero4 _ (gC m c)) Kt) $$ [HG]
  · iexact HG
  iintro HG
  iapply (tail_run m κ c (gC m c) Kt) $$ [HO HY HT HCs HA]
  · isplitr; · iexact Hc
    isplitl [HO]; · iexact HO
    isplitl [HY]; · iexact HY
    isplitl [HT]; · iexact HT
    iapply (Entails.of_eq (chain_sep L7 _ _).symm)
    isplitl [HCs] <;> iassumption
  iintro ⟨HO, HT, HL⟩
  ihave HL := (Entails.of_eq (chain_sep L7 _ _)) $$ HL
  icases HL with ⟨HA, HPs⟩
  iapply Hk
  isplitl [HO]; · iexact HO
  isplitl [HT]; · iexact HT
  isplitl [HA]; · iexact HA
  isplitl [HPs Hp]
  · iapply (unlend7 c (pC m c)); isplitl [HPs] <;> iassumption
  isplitl [Ha]; · iexact Ha
  isplitl [HR]; · iexact HR
  iexact HG

/-! ## The barrier -/

/-- What the barrier's eight units bring: the partner's receive buffer and, of each peer, the slot for this device. -/
def barGet : sProp 𝕄 :=
  iprop(((∃ f, rPts (F := F) (prt c) f) ∗ reached ER (cell (prt c) (.dma sR)) 0)
    ∗ bigSepL L7 fun i => iprop((∃ f, gPts (F := F) (peer c i) (rank c) f) ∗ reached ER (cell (peer c i) (.dma (gR (rank c)))) 0))

theorem prv_rev : ∀ (r : Fin 8) (i : Fin 7), prv r i = nxt r i.rev := by decide

theorem rev7 (Φ : Fin 7 → sProp 𝕄) : (bigSepL L7 fun i => Φ i.rev) ⊢ bigSepL L7 Φ := by
  rw [chain_cons, chain_cons, chain_cons, chain_cons, chain_cons, chain_cons, chain_cons, chain_cons, chain_cons, chain_cons, chain_cons, chain_cons, chain_cons, chain_cons]
  rw [show (0 : Fin 7).rev = 6 from rfl, show (1 : Fin 7).rev = 5 from rfl, show (2 : Fin 7).rev = 4 from rfl, show (3 : Fin 7).rev = 3 from rfl,
    show (4 : Fin 7).rev = 2 from rfl, show (5 : Fin 7).rev = 1 from rfl, show (6 : Fin 7).rev = 0 from rfl]
  iintro ⟨H6, H5, H4, H3, H2, H1, H0, HE⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact HE

theorem bar_payloads : (bigSep Finset.univ fun d : Fin 8 => (Rd m).payload (barCell c) 0 d) ⊢ (barGet c : sProp 𝕄) := by
  rw [bigSep_univ_eq_bigSepL (0 :: L7.map Fin.succ) (by decide) (by decide), chain_cons, bigSepL_map, payload_bar_zero]
  unfold barGet
  refine sep_mono_right ?_
  have h := rev7 (F := F) fun i => iprop((∃ f, gPts (F := F) (peer c i) (rank c) f) ∗ reached ER (cell (peer c i) (.dma (gR (rank c)))) 0)
  refine Entails.trans (Entails.of_eq ?_) h
  congr 1
  funext i
  rw [payload_bar_succ, prv_rev]; rfl

theorem bar_wait (l : List (Pay nD τ sig)) (hl : ∀ x ∈ l, x.1.1.2 = .tc ∧ 1 < x.2.1 ∧ x.2.1 < 4) (k : PR F) (Kt : PUnit.{1} → sProp 𝕄) :
    iprop(ctx m κ ∗ cred (tallyAt (barCell c) 1 8) ∗ ow c l ∗ atPos ER (barCell c) 0 ∅ 0)
      ⊢ iprop((ow c l ∗ atPos ER (barCell c) 1 ∅ 0 ∗ barGet c -∗ WP c k Kt)
        -∗ WP c (.op (.semWait barSem (8#32 : BitVec 32).toInt) fun _ => k) Kt) := by
  have hw : (Rd m).expect (barCell c) 0 = 8 := by
    unfold Schedule.expect Schedule.amountOf; rw [duties_bar m c]; rfl
  unfold ow
  iintro ⟨#Hc, HC, ⟨%W, HO⟩, Ha⟩ Hk
  rw [barSem_eq]
  iapply (Rounds.wp_wait_rest_token 𝒱₀ ER (Rd m) (c : Thread nD τ) none (κ := κ (barCell c))
      (wpE_semWait_eq 𝒱₀ (c : Thread nD τ) none Set.univ) (Set.mem_univ _) 1 (O := tallyL l) (W := W) (R := 0) (m := 0) (T := ∅)
      (by rw [hw, zero_add]; rfl)) $$ [HC HO Ha]
  · isplitr; · iapply (ctx_bar m κ c); iexact Hc
    isplitl [HC]; · iexact HC
    isplitl [HO]; · iexact HO
    isplitr; · iapply (ctx_mayWait m κ c (.reg barrier0) 1 (by decide) l hl); iexact Hc
    iexact Ha
  rw [duties_bar m c, Finset.sdiff_empty]
  iintro ⟨HO, Ha, -, Hp⟩
  iapply Hk
  isplitl [HO]; · iexists _; iexact HO
  isplitl [Ha]; · iexact Ha
  iapply (bar_payloads m c) $$ Hp

/-! ## The exchange with the partner -/

/-- What each send to a peer needs besides the peer's slot. -/
def sndTok (i : Fin 7) : sProp 𝕄 :=
  iprop(dutyTok ER (cell c (.dma (gS i))) 0 0 ∗ reached ER (cell c (.dma (gS i))) 0 ∗ dutyTok ER (cell (peer c i) (.dma (gR (rank c)))) 0 0)

/-- What the exchange and all after it need, and what they leave. -/
def swapIn : sProp 𝕄 :=
  iprop((∃ f, sPts (F := F) c f) ∗ (∃ f, pPts (F := F) c fullShare f) ∗ (cred (tallyAt (barCell c) 1 8) ∗ atPos ER (barCell c) 0 ∅ 0)
    ∗ (dutyTok ER (cell c (.dma sY)) 0 0 ∗ reached ER (cell c (.dma sY)) 0 ∗ dutyTok ER (cell (prt c) (.dma sR)) 0 0)
    ∗ (crd c sR 2 Np ∗ at0 c sR) ∗ bigSepL L7 (sndTok c) ∗ gatherIn c)
@[inherit_doc swapIn] def swapOut : sProp 𝕄 :=
  iprop(atPos ER (barCell c) 1 ∅ 0 ∗ at1 c sR ∗ rPts c (sC m (prt c)) ∗ gatherOut m c)

theorem dueS_tc : ∀ c : Dev nD, ∀ x ∈ dueS c, x.1.1.2 = .tc ∧ 1 < x.2.1 ∧ x.2.1 < 4 := by decide +kernel
theorem sndDue_tc : ∀ c : Dev nD, ∀ x ∈ sndDue c L7, x.1.1.2 = .tc ∧ 2 < x.2.1 ∧ x.2.1 < 4 := by decide +kernel

theorem sBuf_put (f w : Vec F S8x8x130 .f32) :
    (sBuf.access (Rect.unit (s := S8x8x130) ![0, 0, 0] S8x8x130.size inb_S8x8x130_S8x8x130_0_0_0)).write (Elt F) f w Finset.univ = w :=
  Memref.write_access_unit_zero_univ (Elt F) cc0_scratch2 zero3 _ f w
theorem pBuf_put (f w : Vec F S8x8x130 .f32) :
    (pBuf.access (Rect.unit (s := S8x8x130) ![0, 0, 0] S8x8x130.size inb_S8x8x130_S8x8x130_0_0_0)).write (Elt F) f w Finset.univ = w :=
  Memref.write_access_unit_zero_univ (Elt F) cc0_scratch4 zero3 _ f w

theorem swap_landed (f : FVec F S8x8x130 .f32) :
    (rBuf.view.loc (prt c : Thread nD τ) ↦[rBuf.view.set]{fullShare} (rBuf.view.write (Elt F) f (sBuf.view.read (Elt F) (sC m c)) Finset.univ))
      ⊢ ((Rd m).payload (cell (prt c) (.dma sR)) 0 0 : sProp 𝕄) := by
  have h : rBuf.view.write (Elt F) f (sBuf.view.read (Elt F) (sC m c)) Finset.univ = sC m c := View.write_whole_univ (Val := Elt F) cc0_scratch3 f (sC m c)
  rw [h]
  show _ ⊢ (rPts (prt c) (sC m (prt (prt c))) : sProp 𝕄)
  rw [prt_prt]

/-- The send to the partner, its device and semaphores left open. -/
def swapG (n : Dev nD) (s s' : DmaSem sig) (k : PR F) : PR F :=
  .op (.enqueueDma sBuf (.remote (Dev.tc n) rBuf (.dma s)) (.dma s')
    (Memref.isWhole_whole _).wordExact (Memref.isWhole_whole _).wordExact ⟨⟨rfl, Or.inl rfl⟩, trivial⟩) fun _ => k

theorem swapP_eq (o : FVec F S8x8x128 .f32) (mx l : FVec F S8x8 .f32) (p : FVec F S8x8x130 .f32) : swapP c o mx l p =
    ldP sBuf fun _ => stP sBuf (k0_pay11 p) <|
    .op (.semWait barSem (8#32 : BitVec 32).toInt) fun _ => swapG (prt c) sY sR <|
    .op (.waitDma2 sR sBuf rBuf (Memref.isWhole_whole _).wordExact (Memref.isWhole_whole _).wordExact) fun _ =>
    .op (.load rBuf (Rect.unit (s := S8x8x130) ![0, 0, 128] S8x8x1.size inb_S8x8x130_S8x8x1_0_0_128).toLoadRect (View.loadsAt_vmem h_S8x8x1)) fun (x : Vec F S8x8x1 .f32) =>
    .op (.load rBuf (Rect.unit (s := S8x8x130) ![0, 0, 129] S8x8x1.size inb_S8x8x130_S8x8x1_0_0_129).toLoadRect (View.loadsAt_vmem h_S8x8x1)) fun (y : Vec F S8x8x1 .f32) =>
    .op (.load rBuf (Rect.unit (s := S8x8x130) ![0, 0, 0] S8x8x128.size inb_S8x8x130_S8x8x128_0_0_0).toLoadRect (View.loadsAt_vmem h_S8x8x128)) fun (z : Vec F S8x8x128 .f32) =>
    ldP pBuf fun _ => stP pBuf (k0_pay19 (k0_pay16 mx l x y) (k0_pay17 o mx x z) (k0_pay18 mx x)) <| gatherP c := by
  rw [show sY = (cc0_scratch7.sem : DmaSem sig) from ySend_eq.symm, show sR = (cc0_scratch8.sem : DmaSem sig) from yRecv_eq.symm, ← dev9_eq]; rfl

theorem swap_run (o : FVec F S8x8x128 .f32) (mx l : FVec F S8x8 .f32) (p : FVec F S8x8x130 .f32) (hs : k0_pay11 p = sC m c)
    (hp : k0_pay19 (k0_pay16 mx l (mPart (sC m (prt c))) (lPart (sC m (prt c)))) (k0_pay17 o mx (mPart (sC m (prt c))) (oPart (sC m (prt c))))
      (k0_pay18 mx (mPart (sC m (prt c)))) = pC m c) (Kt : PUnit.{1} → sProp 𝕄) :
    iprop(ctx m κ ∗ ow c (dueS c) ∗ swapIn c) ⊢ iprop((swapOut m c -∗ Kt ⟨⟩) -∗ WP c (swapP c o mx l p) Kt) := by
  unfold swapIn swapOut
  rw [swapP_eq]
  iintro ⟨#Hc, HO, ⟨%fs, Hs⟩, ⟨%fp, Hp⟩, ⟨HcB, HaB⟩, ⟨HtY, HrY, HtR⟩, ⟨HcR, HaR⟩, HS, HG⟩ Hk
  unfold ldP stP
  iapply (ld_step c (Memref.readAt_unit_zero (Elt F) cc0_scratch2 zero3 _ fs) Kt) $$ [Hs]
  · iexact Hs
  iintro Hs
  iapply (st_step c (sBuf_put fs (k0_pay11 p)) Kt) $$ [Hs]
  · iexact Hs
  rw [hs]
  iintro Hs
  iapply (bar_wait m κ c (dueS c) (dueS_tc c) _ Kt) $$ [HcB HO HaB]
  · isplitr; · iexact Hc
    isplitl [HcB]; · iexact HcB
    isplitl [HO] <;> iassumption
  unfold barGet
  iintro ⟨HO, HaB, ⟨⟨%fr, Hr⟩, HrR⟩, HX⟩
  unfold swapG
  iapply (send_step m κ c (rfl : prt c = prt c) sY sR (by decide) (by decide) (fY c) (fR (prt c)) 2 Np rfl rfl credit_rBuf .rfl
    (swap_landed m c fr) (sndDue c L7) Kt) $$ [Hs Hr HO HtY HrY HtR HrR]
  · isplitr; · iexact Hc
    isplitl [Hs]; · iexact Hs
    isplitl [Hr]; · iexact Hr
    isplitl [HO]; · iexact HO
    isplitl [HtY]; · iexact HtY
    isplitl [HrY]; · iexact HrY
    isplitl [HtR] <;> iassumption
  iintro ⟨HcY, HO⟩
  iapply (dma_wait m κ c sR (by decide) (fR c) 2 Np (by decide) (sndDue c L7) (sndDue_tc c) rfl credit_rBuf Kt) $$ [HcR HO HaR]
  · isplitr; · iexact Hc
    isplitl [HcR]; · iexact HcR
    isplitl [HO] <;> iassumption
  iintro ⟨HO, HaR, Hr⟩
  ihave Hr := (show ((Rd m).payload (cell c (.dma sR)) 0 0 : sProp 𝕄) ⊢ rPts c (sC m (prt c)) from .rfl) $$ Hr
  iapply (ld_step c (show _ = mPart (sC m (prt c)) from rfl) Kt) $$ [Hr]
  · iexact Hr
  iintro Hr
  iapply (ld_step c (show _ = lPart (sC m (prt c)) from rfl) Kt) $$ [Hr]
  · iexact Hr
  iintro Hr
  iapply (ld_step c (show _ = oPart (sC m (prt c)) from rfl) Kt) $$ [Hr]
  · iexact Hr
  iintro Hr
  iapply (ld_step c (Memref.readAt_unit_zero (Elt F) cc0_scratch4 zero3 _ fp) Kt) $$ [Hp]
  · iexact Hp
  iintro Hp
  iapply (st_step c (pBuf_put fp _) Kt) $$ [Hp]
  · iexact Hp
  rw [hp]
  iintro Hp
  iapply (gather_run m κ c Kt) $$ [HO Hp HX HS HG HcY]
  · isplitr; · iexact Hc
    isplitl [HO]; · iexact HO
    isplitl [Hp]; · iexact Hp
    isplitl [HX HS]
    · iapply (bigSepL_mono (Φ := fun i => iprop(((∃ f, gPts (F := F) (peer c i) (rank c) f) ∗ reached ER (cell (peer c i) (.dma (gR (rank c)))) 0) ∗ sndTok c i))
        (fun i _ => (by
          unfold sndIn sndTok
          iintro ⟨⟨A, B⟩, C, D, E⟩
          isplitl [A]; · iexact A
          isplitl [C]; · iexact C
          isplitl [D]; · iexact D
          isplitl [E] <;> iassumption : iprop(((∃ f, gPts (F := F) (peer c i) (rank c) f) ∗ reached ER (cell (peer c i) (.dma (gR (rank c)))) 0) ∗ sndTok c i) ⊢ (sndIn c i : sProp 𝕄))))
      iapply (Entails.of_eq (chain_sep L7 _ _).symm)
      isplitl [HX] <;> iassumption
    isplitl [HcY] <;> iassumption
  iintro HG
  iapply Hk
  isplitl [HaB]; · iexact HaB
  isplitl [HaR]; · iexact HaR
  isplitl [Hr] <;> iassumption

/-! ## The local attention, and the signals before it -/

/-- What the local attention and all after it need, and what they leave. -/
def localIn : sProp 𝕄 :=
  iprop((∃ f, kPts (F := F) c f) ∗ (∃ f, vPts (F := F) c f) ∗ kSrc m c ∗ vSrc m c ∗ (qPts c (qC m c) ∗ btPts c (btC m c) ∗ lnPts c (lnC m c))
    ∗ (dutyTok ER (cell c (.dma sK)) 0 0 ∗ reached ER (cell c (.dma sK)) 0 ∗ at0 c sK)
    ∗ (dutyTok ER (cell c (.dma sV)) 0 0 ∗ reached ER (cell c (.dma sV)) 0 ∗ at0 c sV) ∗ swapIn c)
@[inherit_doc localIn] def localOut : sProp 𝕄 :=
  iprop(kPts c (kC m c) ∗ vPts c (vC m c) ∗ kSrc m c ∗ vSrc m c ∗ (qPts c (qC m c) ∗ btPts c (btC m c) ∗ lnPts c (lnC m c))
    ∗ at1 c sK ∗ at1 c sV ∗ swapOut m c)

theorem k_landed (f : Vec F S64x16x8x128 .f32) :
    iprop((kBuf.view.loc (c : Thread nD τ) ↦[kBuf.view.set]{fullShare} (kBuf.view.write (Elt F) f ((pages kHbm (k0_off1 c) (k0_off1_inb c)).view.read (Elt F) (m (c, main_arg1))) Finset.univ))
      ∗ kSrc m c) ⊢ ((Rd m).payload (cell c (.dma sK)) 0 0 : sProp 𝕄) := by
  have h : kBuf.view.write (Elt F) f ((pages kHbm (k0_off1 c) (k0_off1_inb c)).view.read (Elt F) (m (c, main_arg1))) Finset.univ = kC m c :=
    View.write_whole_univ (Val := Elt F) cc0_scratch0 f (kC m c)
  rw [h]; exact .rfl
theorem v_landed (f : Vec F S64x16x8x128 .f32) :
    iprop((vBuf.view.loc (c : Thread nD τ) ↦[vBuf.view.set]{fullShare} (vBuf.view.write (Elt F) f ((pages vHbm (k0_off1 c) (k0_off1_inb c)).view.read (Elt F) (m (c, main_arg2))) Finset.univ))
      ∗ vSrc m c) ⊢ ((Rd m).payload (cell c (.dma sV)) 0 0 : sProp 𝕄) := by
  have h : vBuf.view.write (Elt F) f ((pages vHbm (k0_off1 c) (k0_off1_inb c)).view.read (Elt F) (m (c, main_arg2))) Finset.univ = vC m c :=
    View.write_whole_univ (Val := Elt F) cc0_scratch1 f (vC m c)
  rw [h]; exact .rfl

theorem kv0 : (kvSem 0 : DmaSem sig) = sK := kvSem_eq 0
theorem kv1 : (kvSem 1 : DmaSem sig) = sV := kvSem_eq 1
theorem credit_kBuf : kBuf.view.dmaCredit = Nk := rfl
theorem credit_vBuf : vBuf.view.dmaCredit = Nk := rfl

/-- A copy of pages and its wait, the semaphore left open. -/
def fetchG (a : Memref sig .tc .hbm S512x16x8x128 .f32) (b : Memref sig .tc .vmem S64x16x8x128 .f32) (hb : b.IsWhole) (s : DmaSem sig) (d : Dev nD)
    (k : PR F) : PR F :=
  .op (.enqueueDma (pages a (k0_off1 d) (k0_off1_inb d)) (.here b) (.dma s) (View.wordExact_bits rfl) hb.wordExact ⟨Or.inl rfl, trivial⟩) fun _ => k
@[inherit_doc fetchG] def fetchedG (a : Memref sig .tc .hbm S512x16x8x128 .f32) (b : Memref sig .tc .vmem S64x16x8x128 .f32) (hb : b.IsWhole) (s : DmaSem sig)
    (d : Dev nD) (k : PR F) : PR F :=
  .op (.waitDma2 s (pages a (k0_off1 d) (k0_off1_inb d)) b (View.wordExact_bits rfl) hb.wordExact) fun _ => k
theorem fetch0 (a b hb d) (k : PR F) : fetch a b hb 0 d k = fetchG a b hb sK d k := by rw [← kv0]; rfl
theorem fetch1 (a b hb d) (k : PR F) : fetch a b hb 1 d k = fetchG a b hb sV d k := by rw [← kv1]; rfl
theorem fetched0 (a b hb d) (k : PR F) : fetched a b hb 0 d k = fetchedG a b hb sK d k := by rw [← kv0]; rfl
theorem fetched1 (a b hb d) (k : PR F) : fetched a b hb 1 d k = fetchedG a b hb sV d k := by rw [← kv1]; rfl

theorem local_run (Kt : PUnit.{1} → sProp 𝕄) :
    iprop(ctx m κ ∗ ow c (dueS c) ∗ localIn m c) ⊢ iprop((localOut m c -∗ Kt ⟨⟩) -∗ WP c (localP c) Kt) := by
  unfold localIn localOut
  iintro ⟨#Hc, HO, ⟨%fk, Hk⟩, ⟨%fv, Hv⟩, HkS, HvS, ⟨Hq, Hb, Hl⟩, ⟨HtK, HrK, HaK⟩, ⟨HtV, HrV, HaV⟩, HS⟩ HK
  unfold localP
  simp only [fetch0, fetch1, fetched0, fetched1]
  unfold fetchG fetchedG
  iapply (copy_step m κ c sK (by decide) (fK c) Nk rfl credit_kBuf (k_landed m c fk) Kt) $$ [HkS Hk HtK HrK]
  · isplitr; · iexact Hc
    isplitl [HkS]; · iexact HkS
    isplitl [Hk]; · iexact Hk
    isplitl [HtK] <;> iassumption
  iintro HcK
  iapply (copy_step m κ c sV (by decide) (fV c) Nk rfl credit_vBuf (v_landed m c fv) Kt) $$ [HvS Hv HtV HrV]
  · isplitr; · iexact Hc
    isplitl [HvS]; · iexact HvS
    isplitl [Hv]; · iexact Hv
    isplitl [HtV] <;> iassumption
  iintro HcV
  iapply (ld_step c (Memref.readAt_unit_zero (Elt F) cc0_stg2_0 zero2 _ (lnC m c)) Kt) $$ [Hl]
  · iexact Hl
  iintro Hl
  iapply (ld_step c (Memref.readAt_unit_zero (Elt F) cc0_stg1_0 zero2 _ (btC m c)) Kt) $$ [Hb]
  · iexact Hb
  iintro Hb
  iapply (ld_step c (Memref.readAt_unit_zero (Elt F) cc0_stg0_0 zero4 _ (qC m c)) Kt) $$ [Hq]
  · iexact Hq
  iintro Hq
  iapply (dma_wait m κ c sK (by decide) (fK c) 0 Nk (by decide) (dueS c) (fun x hx => ⟨(dueS_tc c x hx).1, by have := (dueS_tc c x hx).2; omega⟩) rfl credit_kBuf Kt) $$ [HcK HO HaK]
  · isplitr; · iexact Hc
    isplitl [HcK]; · iexact HcK
    isplitl [HO] <;> iassumption
  iintro ⟨HO, HaK, Hp⟩
  ihave Hp := (show ((Rd m).payload (cell c (.dma sK)) 0 0 : sProp 𝕄) ⊢ iprop(kPts c (kC m c) ∗ kSrc m c) from .rfl) $$ Hp
  icases Hp with ⟨Hk, HkS⟩
  iapply (ld_step c (Memref.readAt_unit_zero (Elt F) cc0_scratch0 zero4 _ (kC m c)) Kt) $$ [Hk]
  · iexact Hk
  iintro Hk
  iapply (dma_wait m κ c sV (by decide) (fV c) 0 Nk (by decide) (dueS c) (fun x hx => ⟨(dueS_tc c x hx).1, by have := (dueS_tc c x hx).2; omega⟩) rfl credit_vBuf Kt) $$ [HcV HO HaV]
  · isplitr; · iexact Hc
    isplitl [HcV]; · iexact HcV
    isplitl [HO] <;> iassumption
  iintro ⟨HO, HaV, Hp⟩
  ihave Hp := (show ((Rd m).payload (cell c (.dma sV)) 0 0 : sProp 𝕄) ⊢ iprop(vPts c (vC m c) ∗ vSrc m c) from .rfl) $$ Hp
  icases Hp with ⟨Hv, HvS⟩
  iapply (ld_step c (Memref.readAt_unit_zero (Elt F) cc0_scratch1 zero4 _ (vC m c)) Kt) $$ [Hv]
  · iexact Hv
  iintro Hv
  iapply (swap_run m κ c _ _ _ _ rfl rfl Kt) $$ [HO HS]
  · isplitr; · iexact Hc
    isplitl [HO] <;> iassumption
  iintro HS
  iapply HK
  isplitl [Hk]; · iexact Hk
  isplitl [Hv]; · iexact Hv
  isplitl [HkS]; · iexact HkS
  isplitl [HvS]; · iexact HvS
  isplitl [Hq Hb Hl]
  · isplitl [Hq]; · iexact Hq
    isplitl [Hb] <;> iassumption
  isplitl [HaK]; · iexact HaK
  isplitl [HaV] <;> iassumption

/-- What the whole body needs: what the signals hand over first. -/
def flatIn : sProp 𝕄 :=
  iprop(ow c (due c) ∗ ((∃ f, rPts (F := F) c f) ∗ reached ER (cell c (.dma sR)) 0 ∗ dutyTok ER (barCell (prt c)) 0 0)
    ∗ (bigSepL L7 fun i => iprop((∃ f, gPts (F := F) c (nxt (rank c) i) f) ∗ reached ER (cell c (.dma (gR (nxt (rank c) i)))) 0
        ∗ dutyTok ER (barCell (peer c i)) 0 i.succ))
    ∗ localIn m c)

theorem flat_run (Kt : PUnit.{1} → sProp 𝕄) :
    iprop(ctx m κ ∗ flatIn m c) ⊢ iprop((localOut m c -∗ Kt ⟨⟩) -∗ WP c flat Kt) := by
  unfold flatIn
  iintro ⟨#Hc, HO, ⟨⟨%f, Hr⟩, HrR, HtB⟩, HG, HL⟩ Hk
  unfold flat WP
  rw [wp_deviceId]
  iapply (sig_step m κ c (dev1_eq c) 0 (sigDue c L7 ++ dueS c) _ Kt) $$ [HO Hr HrR HtB]
  · isplitr; · iexact Hc
    isplitl [HO]; · iexact HO
    isplitl [HtB]; · iexact HtB
    rw [payload_bar_zero, prt_prt]
    isplitl [Hr]; · iexists f; iexact Hr
    iexact HrR
  iintro HO
  iapply (rep_sig m κ c (dueS c) _ Kt L7) $$ [HO HG]
  · isplitr; · iexact Hc
    isplitl [HO]; · iexact HO
    iapply (bigSepL_mono (fun i _ => (by
        unfold sigRes
        rw [payload_bar_succ, rank_peer, prv_nxt]
        unfold peer
        rw [mate_mate, mate_rank]
        iintro ⟨A, B, C⟩
        isplitl [C]; · iexact C
        isplitl [A] <;> iassumption :
          iprop((∃ f, gPts (F := F) c (nxt (rank c) i) f) ∗ reached ER (cell c (.dma (gR (nxt (rank c) i)))) 0 ∗ dutyTok ER (barCell (peer c i)) 0 i.succ)
            ⊢ (sigRes m c i : sProp 𝕄)))) $$ HG
  iintro HO
  iapply (local_run m κ c Kt) $$ [HO HL]
  · isplitr; · iexact Hc
    isplitl [HO] <;> iassumption
  iexact Hk

end Cert.KernelIdeal.Talk
-- ==== Proof.Cells.lean ====
module

public import proofs.«01_k».proof.Proof.Run

@[expose] public noncomputable section

/-! # The scoped cells: opened when the kernel begins, closed when it ends

A device has twenty scoped cells.  They are listed with the arrival semaphores taken from the device's own rank on, as
the body takes them. -/

namespace Cert.KernelIdeal.Talk

open Idealize Idealize.ShloMosaic Idealize.ShloMosaic.TcCoe Idealize.ShloMosaic.Pipeline Idealize.ShloMosaic.Rounds
open Idealize.ShloMosaic.TalkSites Idealize.ShloMosaic.SiteBlocks
open Idealize.SL Idealize.SL.RA Idealize.SL.BI Idealize.SL.Sem Idealize.SL.ProofMode
open scoped Idealize.SL.BI
open Idealize.SL.BI.BIBase Idealize.SL.BI.Laws
open Cert.KernelIdeal Cert.KernelIdeal.Gen

variable {F : FTy → Type} [FloatOps F] [Named F] (m : (ℓ : Loc nD τ sig) → Buf (Elt F) ℓ)

local notation "𝕄" => MT nD τ sig ℕ (Elt F) ℕ UU ℕ

/-- The scoped semaphores, those of the gather from rank `r` on. -/
def scL (r : Fin 8) : List (DmaSem sig) :=
  [sK, sV, sY, sR, sG] ++ (L7.map gS ++ gR r :: L7.map fun i => gR (nxt r i))

theorem osem_image : ∀ r : Fin 8, Finset.univ.image osem = ((scL r).map SemLoc.dma).toFinset := by decide +kernel
theorem scL_nodup : ∀ r : Fin 8, ((scL r).map (SemLoc.dma (sig := sig))).Nodup := by decide +kernel
theorem scL_low : ∀ r : Fin 8, ∀ s ∈ scL r, 4 ≤ s.val := by decide +kernel
theorem osem_inj : Function.Injective osem := by decide +kernel

theorem chain_map {I J : Type} (f : I → J) (l : List I) (Φ : J → sProp 𝕄) : bigSepL (l.map f) Φ = bigSepL l fun i => Φ (f i) := by
  induction l with
  | nil => rfl
  | cons i l ih => rw [List.map_cons, chain_cons, chain_cons, ih]
theorem chain_append {I : Type} (l l' : List I) (Φ : I → sProp 𝕄) : bigSepL (l ++ l') Φ = iprop(bigSepL l Φ ∗ bigSepL l' Φ) := by
  induction l with
  | nil => exact (BI.equiv_iff.mp emp_sep).symm
  | cons i l ih =>
    rw [List.cons_append, chain_cons, chain_cons, ih]
    refine BI.Entails.antisymm (show (iprop(Φ i ∗ bigSepL l Φ ∗ bigSepL l' Φ) : sProp 𝕄) ⊢ iprop((Φ i ∗ bigSepL l Φ) ∗ bigSepL l' Φ) from ?_)
      (show (iprop((Φ i ∗ bigSepL l Φ) ∗ bigSepL l' Φ) : sProp 𝕄) ⊢ iprop(Φ i ∗ bigSepL l Φ ∗ bigSepL l' Φ) from ?_)
    · iintro ⟨A, B, C⟩
      isplitl [A B]
      · isplitl [A] <;> iassumption
      iexact C
    · iintro ⟨⟨A, B⟩, C⟩
      isplitl [A]; · iexact A
      isplitl [B] <;> iassumption

theorem scoped_chain (r : Fin 8) (Φ : SemLoc sig → sProp 𝕄) : bigSep (Finset.univ.image osem) Φ = bigSepL (scL r) fun s => Φ (.dma s) := by
  rw [bigSep_eq_bigSepL_of_eq ((scL r).map SemLoc.dma) (osem_image r) (scL_nodup r), chain_map]

/-- The chain over the scoped semaphores, written out. -/
theorem scL_chain (r : Fin 8) (Φ : DmaSem sig → sProp 𝕄) : bigSepL (scL r) Φ
    = iprop(Φ sK ∗ Φ sV ∗ Φ sY ∗ Φ sR ∗ Φ sG ∗ (bigSepL L7 fun i => Φ (gS i)) ∗ Φ (gR r) ∗ bigSepL L7 fun i => Φ (gR (nxt r i))) := by
  unfold scL
  rw [List.cons_append, List.cons_append, List.cons_append, List.cons_append, List.cons_append, List.nil_append,
    chain_cons, chain_cons, chain_cons, chain_cons, chain_cons, chain_append, chain_cons, chain_map, chain_map]

variable (κ : GSem nD τ sig → ℕ) (c : Dev nD)

theorem ownSems_eq : (Pipeline.ownSems0 osem c : sProp 𝕄) = bigSepL (scL (rank c)) fun s => semVal (cell c (.dma s)) 0 := by
  rw [← scoped_chain (rank c) fun s => semVal (cell c s) 0, show Finset.univ.image osem = Finset.univ.map ⟨osem, osem_inj⟩ from by rw [Finset.map_eq_image]; rfl, bigSep_map]
  rfl

/-- One cell opened, and one closed. -/
theorem open_one (s : DmaSem sig) (h : 4 ≤ s.val) :
    iprop(ctx m κ ∗ openTok ER (cell c (.dma s)) ∗ semVal (cell c (.dma s)) 0) ⊢ (iprop(|={Set.univ}=> (at0 c s ∗ reached ER (cell c (.dma s)) 0)) : sProp 𝕄) := by
  iintro ⟨#Hc, Ho, Hv⟩
  iapply (Rounds.cell_open ER (Rd m) (g := cell c (.dma s)) (Set.mem_univ (κ (cell c (.dma s)))))
  isplitr; · iapply (ctx_dma m κ c s h); iexact Hc
  isplitl [Ho] <;> iassumption
theorem close_one (s : DmaSem sig) (h : 4 ≤ s.val) (R : ℕ) (hR : ∀ r ≥ R, (Rd m).duties (cell c (.dma s)) r = ∅) :
    iprop(ctx m κ ∗ atPos ER (cell c (.dma s)) R ∅ 0) ⊢ (iprop(|={Set.univ}=> semVal (cell c (.dma s)) 0) : sProp 𝕄) := by
  iintro ⟨#Hc, Ha⟩
  iapply (Rounds.cell_close ER (Rd m) (Set.mem_univ (κ (cell c (.dma s)))) id hR)
  isplitr; · iapply (ctx_dma m κ c s h); iexact Hc
  iexact Ha
theorem close_bar : iprop(ctx m κ ∗ atPos ER (barCell c) 1 ∅ 0) ⊢ (iprop(|={Set.univ}=> semVal (barCell c) 0) : sProp 𝕄) := by
  iintro ⟨#Hc, Ha⟩
  iapply (Rounds.cell_close ER (Rd m) (Set.mem_univ (κ (barCell c))) id (fun r h => duties_late m _ r h))
  isplitr; · iapply (ctx_bar m κ c); iexact Hc
  iexact Ha

theorem own_done : ∀ r ≥ 0, (Rd m).duties (cell c (.dma (gR (rank c)))) r = ∅ := fun r _ => by
  rcases Nat.eq_zero_or_pos r with rfl | h
  · exact duties_own m c
  · exact duties_late m _ r h

/-- A list of updates, made one after the other. -/
theorem chain_upd {I : Type} (R : sProp 𝕄) [BI.Persistent R] (Φ Ψ : I → sProp 𝕄) : ∀ (l : List I), (∀ i ∈ l, iprop(R ∗ Φ i) ⊢ iprop(|={Set.univ}=> Ψ i)) →
    iprop(R ∗ bigSepL l Φ) ⊢ (iprop(|={Set.univ}=> bigSepL l Ψ) : sProp 𝕄)
  | [], _ => by
    iintro ⟨-, -⟩; imodintro; iempintro
  | i :: l, h => by
    rw [chain_cons, chain_cons]
    iintro ⟨#HR, Hi, Hl⟩
    imod (h i (List.mem_cons_self ..)) $$ [Hi] with Hi
    · isplitr; · iexact HR
      iexact Hi
    imod (chain_upd R Φ Ψ l fun j hj => h j (List.mem_cons_of_mem _ hj)) $$ [Hl] with Hl
    · isplitr; · iexact HR
      iexact Hl
    imodintro
    isplitl [Hi] <;> iassumption

theorem open_all : iprop(ctx m κ ∗ bigSep (fam.dorm 0) (fun s => openTok ER (cell c s)) ∗ Pipeline.ownSems0 osem c)
    ⊢ (iprop(|={Set.univ}=> bigSepL (scL (rank c)) fun s => iprop(at0 c s ∗ reached ER (cell c (.dma s)) 0)) : sProp 𝕄) := by
  rw [ownSems_eq, show (bigSep (fam.dorm 0) fun s => openTok ER (cell c s) : sProp 𝕄) = bigSepL (scL (rank c)) fun s => openTok ER (cell c (.dma s)) from
    scoped_chain (rank c) _]
  have e := chain_sep (scL (rank c)) (fun s => (openTok ER (cell c (.dma s)) : sProp 𝕄)) (fun s => semVal (cell c (.dma s)) 0)
  iintro ⟨#Hc, Ho, Hv⟩
  iapply (chain_upd (ctx m κ) _ _ (scL (rank c)) fun s hs => open_one m κ c s (scL_low _ s hs))
  isplitr; · iexact Hc
  iapply (Entails.of_eq e.symm)
  isplitl [Ho] <;> iassumption

/-- Where the twenty cells stand at the end. -/
def doneL : sProp 𝕄 :=
  iprop(at1 c sK ∗ at1 c sV ∗ at1 c sY ∗ at1 c sR ∗ at1 c sG ∗ (bigSepL L7 fun i => at1 c (gS i)) ∗ at0 c (gR (rank c)) ∗ bigSepL L7 fun i => at1 c (gR (nxt (rank c) i)))

theorem close_all : iprop(ctx m κ ∗ doneL c) ⊢ (iprop(|={Set.univ}=> Pipeline.ownSems0 osem c) : sProp 𝕄) := by
  have h1 (s : DmaSem sig) (h : 4 ≤ s.val) := close_one m κ c s h 1 fun r hr => duties_late m _ r hr
  rw [ownSems_eq, scL_chain]
  unfold doneL
  iintro ⟨#Hc, A, B, C, D, E, G, H, I⟩
  imod (h1 sK (by decide)) $$ [A] with A
  · isplitr; · iexact Hc
    iexact A
  imod (h1 sV (by decide)) $$ [B] with B
  · isplitr; · iexact Hc
    iexact B
  imod (h1 sY (by decide)) $$ [C] with C
  · isplitr; · iexact Hc
    iexact C
  imod (h1 sR (by decide)) $$ [D] with D
  · isplitr; · iexact Hc
    iexact D
  imod (h1 sG (by decide)) $$ [E] with E
  · isplitr; · iexact Hc
    iexact E
  imod (chain_upd (ctx m κ) (fun i => at1 c (gS i)) (fun i => semVal (cell c (.dma (gS i))) 0) L7 fun i _ => h1 (gS i) (by unfold gS; show 4 ≤ 8 + i.val; omega)) $$ [G] with G
  · isplitr; · iexact Hc
    iexact G
  imod (close_one m κ c (gR (rank c)) (by unfold gR; show 4 ≤ 15 + (rank c).val; omega) 0 (own_done m c)) $$ [H] with H
  · isplitr; · iexact Hc
    iexact H
  imod (chain_upd (ctx m κ) (fun i => at1 c (gR (nxt (rank c) i))) (fun i => semVal (cell c (.dma (gR (nxt (rank c) i)))) 0) L7
    fun i _ => h1 (gR (nxt (rank c) i)) (by unfold gR; show 4 ≤ 15 + (nxt (rank c) i).val; omega)) $$ [I] with I
  · isplitr; · iexact Hc
    iexact I
  imodintro
  isplitl [A]; · iexact A
  isplitl [B]; · iexact B
  isplitl [C]; · iexact C
  isplitl [D]; · iexact D
  isplitl [E]; · iexact E
  isplitl [G]; · iexact G
  isplitl [H] <;> iassumption

/-! ## Credits and tokens at the start -/

/-- What a device is owed. -/
def credits : sProp 𝕄 :=
  iprop(cred (tallyAt (barCell c) 1 8) ∗ crd c sR 2 Np ∗ bigSepL L7 fun i => crd c (gR (nxt (rank c) i)) 3 Np)

theorem due_tc (x : Pay nD τ sig) (hx : x ∈ due c) : x.1.1.2 = .tc := by
  unfold due sigDue dueS sndDue at hx
  simp only [List.mem_cons, List.mem_append, List.mem_map] at hx
  rcases hx with rfl | ⟨i, -, rfl⟩ | rfl | ⟨i, -, rfl⟩ <;> rfl

theorem tally_bar : tallyL (List.replicate 8 (barCell c, 1, 1)) = (tallyAt (barCell c) 1 8 : CellTallies nD τ sig ℕ) := by
  have h (a b : ℕ) : (tallyAt (barCell c) 1 a + tallyAt (barCell c) 1 b : CellTallies nD τ sig ℕ) = tallyAt (barCell c) 1 (a + b) := by
    unfold tallyAt tallyOn
    funext g
    simp only [Pi.add_apply]
    by_cases e : g = barCell c
    · subst e; simp [Finsupp.single_add]
    · simp [Function.update, e]
  have h0 : (0 : CellTallies nD τ sig ℕ) = tallyAt (barCell c) 1 0 := by
    unfold tallyAt tallyOn
    funext g
    by_cases e : g = barCell c
    · subst e; simp
    · simp [Function.update, e]
  show (tallyAt (barCell c) 1 1 + (tallyAt (barCell c) 1 1 + (tallyAt (barCell c) 1 1 + (tallyAt (barCell c) 1 1 + (tallyAt (barCell c) 1 1
    + (tallyAt (barCell c) 1 1 + (tallyAt (barCell c) 1 1 + (tallyAt (barCell c) 1 1 + 0))))))) : CellTallies nD τ sig ℕ) = _
  rw [h0, h, h, h, h, h, h, h, h]

theorem credits_intro : (Pipeline.launchCred (fun d => tallyL (due d)) c : sProp 𝕄) ⊢ credits c := by
  have hb : (bigSepL (List.replicate 8 (barCell c, 1, 1)) fun x : Pay nD τ sig => (cred x.tally : sProp 𝕄)) = cred (tallyAt (barCell c) 1 8) := by
    rw [← cred_tallyL, tally_bar]
  unfold credits
  rw [launchCred_tallyL due due_tc c, tallyL_perm (credOf_perm c), cred_tallyL]
  unfold dueTo
  rw [chain_append, chain_cons, chain_map, hb]

/-- The tokens of the duties a device pays. -/
def tokens : sProp 𝕄 :=
  iprop((dutyTok ER (barCell (prt c)) 0 0 ∗ (bigSepL L7 fun i => dutyTok ER (barCell (peer c i)) 0 i.succ))
    ∗ dutyTok ER (cell c (.dma sK)) 0 0 ∗ dutyTok ER (cell c (.dma sV)) 0 0 ∗ dutyTok ER (cell c (.dma sY)) 0 0
    ∗ dutyTok ER (cell (prt c) (.dma sR)) 0 0 ∗ dutyTok ER (cell c (.dma sG)) 0 0
    ∗ (bigSepL L7 fun i => dutyTok ER (cell c (.dma (gS i))) 0 0) ∗ bigSepL L7 fun i => dutyTok ER (cell (peer c i) (.dma (gR (rank c)))) 0 0)

theorem tokens_intro : bigSep (fam.toks c 0) (fun x => dutyTok ER x.1 x.2.1 x.2.2) ⊢ (tokens c : sProp 𝕄) := by
  rw [show (bigSep (fam.toks c 0) fun x => dutyTok ER x.1 x.2.1 x.2.2 : sProp 𝕄) = bigSepL (tokL c) fun x => dutyTok ER x.1 x.2.1 x.2.2 from
    bigSep_eq_bigSepL_of_eq (tokL c) rfl (tokL_nodup c) _]
  unfold tokL tokens
  rw [chain_append, chain_append, chain_cons, chain_cons, chain_cons, chain_cons, chain_cons, chain_cons, chain_map, chain_map, chain_map]
  iintro ⟨⟨⟨A, B⟩, C, D, E, G, H, I⟩, J⟩
  isplitl [A B]
  · isplitl [A] <;> iassumption
  isplitl [C]; · iexact C
  isplitl [D]; · iexact D
  isplitl [E]; · iexact E
  isplitl [G]; · iexact G
  isplitl [H]; · iexact H
  isplitl [I] <;> iassumption

end Cert.KernelIdeal.Talk
-- ==== Proof.Region.lean ====
module

public import proofs.«01_k».proof.Proof.Cells
public import Idealize.ShloMosaic.Lib.Pipeline.RegionTalk
public import Idealize.ShloMosaic.Lib.Pipeline.Value

@[expose] public noncomputable section

/-! # The kernel as a region of the program -/

namespace Cert.KernelIdeal.Talk

open Idealize Idealize.ShloMosaic Idealize.ShloMosaic.TcCoe Idealize.ShloMosaic.Pipeline Idealize.ShloMosaic.Rounds
open Idealize.ShloMosaic.TalkSites Idealize.ShloMosaic.SiteBlocks
open Idealize.SL Idealize.SL.RA Idealize.SL.BI Idealize.SL.Sem Idealize.SL.ProofMode
open scoped Idealize.SL.BI
open Idealize.SL.BI.BIBase Idealize.SL.BI.Laws
open Cert.KernelIdeal Cert.KernelIdeal.Gen

variable {F : FTy → Type} [FloatOps F] [Named F] (m : (ℓ : Loc nD τ sig) → Buf (Elt F) ℓ)

local notation "𝕄" => MT nD τ sig ℕ (Elt F) ℕ UU ℕ

/-! ## The memory around the region -/

/-- A device's buffers when the kernel begins, and when it has ended. -/
def V₁ (c : Dev nD) : Valuation τ sig (Elt F) := StableHlo.after hostOps0 fun b => m (c, b)
@[inherit_doc V₁] def V₂ (c : Dev nD) : Valuation τ sig (Elt F) :=
  Function.update (V₁ m c) (Proc.devRef .tc main_v2) (show Buf (Elt F) ((c : Thread nD τ).loc main_v2) from outC m c)

theorem V₂_ne (c : Dev nD) (b : Ref sig .tc) (h : (Proc.devRef .tc b : DevRef τ sig) ≠ Proc.devRef .tc main_v2) :
    V₂ m c (Proc.devRef .tc b) = V₁ m c (Proc.devRef .tc b) := Function.update_of_ne h _ _
theorem V₂_v2 (c : Dev nD) : V₂ m c (Proc.devRef .tc main_v2) = (show Buf (Elt F) ((c : Thread nD τ).loc main_v2) from outC m c) := Function.update_self ..

/-- The buffers that the kernel addresses itself or not at all. -/
def rest : Finset (DevRef τ sig) := {Proc.devRef .tc main_arg1, Proc.devRef .tc main_arg2, Proc.devRef .tc main_arg4}

/-- A whole buffer of a device. -/
abbrev pt (c : Dev nD) (b : Ref sig .tc) (f : Buf (Elt F) ((c : Thread nD τ).loc b)) : sProp 𝕄 := (c : Thread nD τ).loc b ↦{fullShare} f

theorem held_rest (c : Dev nD) (W : Valuation τ sig (Elt F)) : (StableHlo.held (c : Thread nD τ) rest W : sProp 𝕄)
    = iprop(pt c main_arg1 (W main_arg1) ∗ pt c main_arg2 (W main_arg2) ∗ pt c main_arg4 (W main_arg4)) := by
  unfold StableHlo.held
  rw [bigSep_eq_bigSepL_of_eq [Proc.devRef .tc main_arg1, Proc.devRef .tc main_arg2, Proc.devRef .tc main_arg4] (by decide) (by decide)]
  rfl

theorem whole_pts (c : Dev nD) (b : Ref sig .tc) (f : Buf (Elt F) ((c : Thread nD τ).loc b)) :
    ((Memref.whole b).view.loc (c : Thread nD τ) ↦[(Memref.whole b).view.set]{fullShare} f : sProp 𝕄) = pt c b f := by
  simp only [View.set_whole]

/-- The pages a device reads, taken out of its cache and put back. -/
theorem k_carve (c : Dev nD) : (pt c main_arg1 (m ((c : Thread nD τ).loc main_arg1)) : sProp 𝕄) ⊢ iprop(kSrc m c ∗ (kSrc m c -∗ pt c main_arg1 (m ((c : Thread nD τ).loc main_arg1)))) := by
  have h := pointsTo_split_subset (Ix := ℕ) (Name := ℕ) (U := UU) (Lvl := ℕ) (ℓ := (c : Thread nD τ).loc main_arg1) (q := fullShare)
    (f := m ((c : Thread nD τ).loc main_arg1)) (Finset.subset_univ (pages kHbm (k0_off1 c) (k0_off1_inb c)).view.set)
  iintro H
  ihave H := h.1 $$ H
  icases H with ⟨A, B⟩
  isplitl [A]; · iexact A
  iintro A
  iapply h.2
  isplitl [A] <;> iassumption
theorem v_carve (c : Dev nD) : (pt c main_arg2 (m ((c : Thread nD τ).loc main_arg2)) : sProp 𝕄) ⊢ iprop(vSrc m c ∗ (vSrc m c -∗ pt c main_arg2 (m ((c : Thread nD τ).loc main_arg2)))) := by
  have h := pointsTo_split_subset (Ix := ℕ) (Name := ℕ) (U := UU) (Lvl := ℕ) (ℓ := (c : Thread nD τ).loc main_arg2) (q := fullShare)
    (f := m ((c : Thread nD τ).loc main_arg2)) (Finset.subset_univ (pages vHbm (k0_off1 c) (k0_off1_inb c)).view.set)
  iintro H
  ihave H := h.1 $$ H
  icases H with ⟨A, B⟩
  isplitl [A]; · iexact A
  iintro A
  iapply h.2
  isplitl [A] <;> iassumption

/-! ## The proof data -/

/-- What the launch leaves with a device for the kernel. -/
def kept (c : Dev nD) : sProp 𝕄 :=
  iprop(∃ κ, fam.cellInvs ER (Rd m) κ ∗ (bigSep Finset.univ fun n : Dev nD => reached ER (barCell n) 0) ∗ atPos ER (barCell c) 0 ∅ 0
    ∗ (bigSep (fam.dorm 0) fun s => openTok ER (cell c s)) ∗ tokens c ∗ credits c)
/-- The same once the scoped cells are open. -/
def opened (c : Dev nD) : sProp 𝕄 :=
  iprop(∃ κ, ctx m κ ∗ atPos ER (barCell c) 0 ∅ 0 ∗ (bigSepL (scL (rank c)) fun s => iprop(at0 c s ∗ reached ER (cell c (.dma s)) 0)) ∗ tokens c ∗ credits c)

/-- The scratch buffers, at any contents. -/
abbrev scratch (c : Dev nD) : sProp 𝕄 := Pipeline.scopedRest (Ix := ℕ) (Name := ℕ) (U := UU) (Lvl := ℕ) (Val := Elt F) spec0 c

/-- Before and after the body. -/
def inv0 (c : Dev nD) : sProp 𝕄 := iprop(scratch c ∗ (∃ r, prngReg c r) ∗ StableHlo.held (c.tc : Thread nD τ) rest (V₁ m c) ∗ opened m c)
@[inherit_doc inv0] def inv1 (c : Dev nD) : sProp 𝕄 :=
  iprop(scratch c ∗ (∃ r, prngReg c r) ∗ StableHlo.held (c.tc : Thread nD τ) rest (V₂ m c) ∗ Pipeline.ownSems0 osem c ∗ semVal (barCell c) 0)

def dat (c : Dev nD) : Pipeline.Dat τ (Elt F) ℕ ℕ UU ℕ cfg0 c where
  A w := V₁ m c (Proc.devRef .tc (Pipeline.arrRef spec0 w))
  after w t := match w with
    | 0 => iblk m c 0 t
    | 1 => iblk m c 1 t
    | 2 => iblk m c 2 t
    | 3 => outC m c
    | ⟨_ + 4, h⟩ => absurd h (Nat.not_lt.2 (Nat.le_add_left _ _))
  Φ t := if t.val = 0 then inv0 m c else inv1 m c
  q _ := fullShare
  owed t := if t.val = 0 then tallyL (due c) else 0

abbrev adm : (p : Fin 1) → (pcfgs (F := F) p).Adm := fun p => (cfgs p).toPCfg_adm
def pdats : (p : Fin 1) → (c : Dev nD) → Pipeline.Dat τ (Elt F) ℕ ℕ UU ℕ (Pipeline.pin (pcfgs (F := F)) adm p) c
  | 0 => dat m

variable (c : Dev nD)

theorem owed_zero : (pdats m 0 c).owed 0 = tallyL (due c) := by
  show (if ((0 : Fin (cfg0.N + 1)).val = 0) then tallyL (due c) else 0) = tallyL (due c); exact if_pos rfl
theorem owed_first : (dat m c).owed t0_0.castSucc = tallyL (due c) := by
  show (if (t0_0.castSucc : Fin (cfg0.N + 1)).val = 0 then tallyL (due c) else 0) = tallyL (due c); exact if_pos rfl
theorem owed_last : (pdats m 0 c).owed (Fin.last _) = 0 := by
  show (if (Fin.last cfg0.N).val = 0 then tallyL (due c) else 0) = 0
  rw [Fin.val_last, if_neg (by rw [show cfg0.N = 1 from N_0]; decide)]

theorem owesAt_intro (t : Fin (cfg0.N + 1)) (O : CellTallies nD τ sig ℕ) (h0 : (dat m c).owed t = O) (W : Waits sig ℕ) :
    (owes (c : Thread nD τ) O W : sProp 𝕄) ⊢ ((dat m c).owesAt 0 t : sProp 𝕄) := by
  unfold Dat.owesAt Pipeline.owesWithin Dat.bound; rw [h0]
  iintro HO; iexists W; isplitr; · ipureintro; exact fun _ _ => Or.inl trivial
  iexact HO
theorem owesAt_elim (t : Fin (cfg0.N + 1)) (O : CellTallies nD τ sig ℕ) (h0 : (dat m c).owed t = O) :
    ((dat m c).owesAt 0 t : sProp 𝕄) ⊢ iprop(∃ W, owes (c : Thread nD τ) O W) := by
  unfold Dat.owesAt Pipeline.owesWithin; rw [h0]
  iintro ⟨%W, -, HO⟩; iexists W; iexact HO

/-! ## The staged blocks -/

theorem before_0 (t : Fin cfg0.N) (d) : (dat m c).before 0 t d = iblk m c 0 t :=
  ((dat m c).before_in_eq_fetched 0 rfl (fun _ => rfl) (fun _ _ _ => rfl) (fun _ => rfl) t d).trans rfl
theorem before_1 (t : Fin cfg0.N) (d) : (dat m c).before 1 t d = iblk m c 1 t :=
  ((dat m c).before_in_eq_fetched 1 rfl (fun _ => rfl) (fun _ _ _ => rfl) (fun _ => rfl) t d).trans rfl
theorem before_2 (t : Fin cfg0.N) (d) : (dat m c).before 2 t d = iblk m c 2 t :=
  ((dat m c).before_in_eq_fetched 2 rfl (fun _ => rfl) (fun _ _ _ => rfl) (fun _ => rfl) t d).trans rfl

/-- The result's array once its one block is written back. -/
theorem arr_out : (dat m c).arrAt 3 cfg0.N = outC m c :=
  (dat m c).arrAt_eq_of_cover 3 (outC m c) (fun t _ => by
      obtain rfl := fin_N0 t
      unfold Pipeline.Dat.flushed
      funext i
      show outC m c _ = outC m c _
      congr 1
      funext a
      apply Fin.ext
      rw [show ((((cfg0.win 3).blk t0_0).view.emb i) a : ℕ) = ((win0_3.rect t0_0).emb i a : ℕ) from rfl, Pipeline.Window.rect_emb_val _ _ _ _ rfl]
      fin_cases a <;> exact (Nat.zero_add _).symm)
    fun i => ⟨t0_0, rfl, by
      show i ∈ ((View.whole main_v2).slice (win0_3.rect t0_0)).set
      rw [View.set_slice_whole, Rect.mem_set_unit]
      intro a
      exact ⟨by fin_cases a <;> exact Nat.zero_le _, by fin_cases a <;> exact (i _).isLt⟩⟩

end Cert.KernelIdeal.Talk
-- ==== Proof.Oblig.lean ====
module

public import proofs.«01_k».proof.Proof.Region

@[expose] public noncomputable section

/-! # The body meets the region's obligation -/

namespace Cert.KernelIdeal.Talk

open Idealize Idealize.ShloMosaic Idealize.ShloMosaic.TcCoe Idealize.ShloMosaic.Pipeline Idealize.ShloMosaic.Rounds
open Idealize.ShloMosaic.TalkSites Idealize.ShloMosaic.SiteBlocks
open Idealize.SL Idealize.SL.RA Idealize.SL.BI Idealize.SL.Sem Idealize.SL.ProofMode
open scoped Idealize.SL.BI
open Idealize.SL.BI.BIBase Idealize.SL.BI.Laws
open Cert.KernelIdeal Cert.KernelIdeal.Gen

variable {F : FTy → Type} [FloatOps F] [Named F] (m : (ℓ : Loc nD τ sig) → Buf (Elt F) ℓ) (κ : GSem nD τ sig → ℕ) (c : Dev nD)

local notation "𝕄" => MT nD τ sig ℕ (Elt F) ℕ UU ℕ

/-- The scratch buffers as the body names them. -/
theorem scratch_eq : (scratch c : sProp 𝕄)
    = iprop((∃ f, kPts (F := F) c f) ∗ (∃ f, vPts (F := F) c f) ∗ (∃ f, sPts (F := F) c f) ∗ (∃ f, rPts (F := F) c f)
      ∗ (∃ f, pPts (F := F) c fullShare f) ∗ (∃ f, gAll (F := F) c f)) := by
  rw [show (scratch c : sProp 𝕄) = _ from scopedRest0_eq c]
  simp only [← whole_pts]
  rfl

/-- The records of the cells and the device's part of the launch, as the body takes them. -/
theorem flat_intro : iprop((dat m c).owesAt 0 t0_0.castSucc ∗ scratch c ∗ kSrc m c ∗ vSrc m c
      ∗ atPos ER (barCell c) 0 ∅ 0 ∗ (bigSepL (scL (rank c)) fun s => iprop(at0 c s ∗ reached ER (cell c (.dma s)) 0)) ∗ tokens c ∗ credits c
      ∗ qPts c (qC m c) ∗ btPts c (btC m c) ∗ lnPts c (lnC m c) ∗ ∃ f, oPts (F := F) c f)
    ⊢ (iprop(flatIn m c ∗ at0 c (gR (rank c))) : sProp 𝕄) := by
  have hS := scL_chain (rank c) fun s => (iprop(at0 c s ∗ reached ER (cell c (.dma s)) 0) : sProp 𝕄)
  have h3 (Φ₁ Φ₂ Φ₃ : Fin 7 → sProp 𝕄) : iprop(bigSepL L7 Φ₁ ∗ bigSepL L7 Φ₂ ∗ bigSepL L7 Φ₃) ⊢ bigSepL L7 fun i => iprop(Φ₁ i ∗ Φ₂ i ∗ Φ₃ i) := by
    rw [chain_sep, chain_sep]
  have h2 (Φ₁ Φ₂ : Fin 7 → sProp 𝕄) : iprop(bigSepL L7 Φ₁ ∗ bigSepL L7 Φ₂) ⊢ bigSepL L7 fun i => iprop(Φ₁ i ∗ Φ₂ i) := by
    rw [chain_sep]
  rw [scratch_eq, hS, chain_sep, chain_sep]
  unfold tokens credits flatIn localIn swapIn gatherIn tailIn
  iintro ⟨HO, ⟨Hk, Hv, Hs, Hr, Hp, Hg⟩, HkS, HvS, HaB, ⟨⟨AK, RK⟩, ⟨AV, RV⟩, ⟨AY, RY⟩, ⟨AR, RR⟩, ⟨AG, RG⟩, ⟨AS, RS⟩, ⟨AO, -⟩, AN, RN⟩,
    ⟨⟨TB, TBs⟩, TK, TV, TY, TR, TG, TS, TN⟩, ⟨CB, CR, CN⟩, Hq, Hb, Hl, Ho⟩
  ihave Hg := (gAll_open c) $$ Hg
  icases Hg with ⟨Hg, Hgs⟩
  isplitr [AO]
  · isplitl [HO]
    · ihave HO := (owesAt_elim m c t0_0.castSucc _ (owed_first m c)) $$ HO; unfold ow; iexact HO
    isplitl [Hr RR TB]
    · isplitl [Hr]; · iexact Hr
      isplitl [RR] <;> iassumption
    isplitl [Hgs RN TBs]
    · iapply (h3 _ _ _)
      isplitl [Hgs]; · iexact Hgs
      isplitl [RN] <;> iassumption
    isplitl [Hk]; · iexact Hk
    isplitl [Hv]; · iexact Hv
    isplitl [HkS]; · iexact HkS
    isplitl [HvS]; · iexact HvS
    isplitl [Hq Hb Hl]
    · isplitl [Hq]; · iexact Hq
      isplitl [Hb] <;> iassumption
    isplitl [TK RK AK]
    · isplitl [TK]; · iexact TK
      isplitl [RK] <;> iassumption
    isplitl [TV RV AV]
    · isplitl [TV]; · iexact TV
      isplitl [RV] <;> iassumption
    isplitl [Hs]; · iexact Hs
    isplitl [Hp]; · iexact Hp
    isplitl [CB HaB]
    · isplitl [CB] <;> iassumption
    isplitl [TY RY TR]
    · isplitl [TY]; · iexact TY
      isplitl [RY] <;> iassumption
    isplitl [CR AR]
    · isplitl [CR] <;> iassumption
    isplitl [TS RS TN]
    · iapply (h3 _ _ _)
      isplitl [TS]; · iexact TS
      isplitl [RS] <;> iassumption
    isplitl [Hg]; · iexact Hg
    isplitl [TG RG AG]
    · isplitl [TG]; · iexact TG
      isplitl [RG] <;> iassumption
    isplitl [CN AN]
    · iapply (h2 _ _)
      isplitl [CN] <;> iassumption
    isplitl [AS]; · iexact AS
    isplitl [Ho] <;> iassumption
  iexact AO

/-- The body's end, closed up. -/
theorem flat_elim : iprop(ctx m κ ∗ localOut m c ∗ at0 c (gR (rank c)))
    ⊢ (iprop(|={Set.univ}=> (scratch c ∗ kSrc m c ∗ vSrc m c ∗ Pipeline.ownSems0 osem c ∗ semVal (barCell c) 0 ∗ (dat m c).owesAt 0 t0_0.succ
      ∗ qPts c (qC m c) ∗ btPts c (btC m c) ∗ lnPts c (lnC m c) ∗ oPts c (outC m c))) : sProp 𝕄) := by
  rw [scratch_eq]
  unfold localOut swapOut gatherOut tailOut
  iintro ⟨#Hc, ⟨Hk, Hv, HkS, HvS, ⟨Hq, Hb, Hl⟩, AK, AV, AB, AR, Hr, HO, ⟨Ho, AY, Hs⟩, AS, Hp, AG, AN, Hg⟩, AO⟩
  imod (close_bar m κ c) $$ [AB] with AB
  · isplitr; · iexact Hc
    iexact AB
  imod (close_all m κ c) $$ [AK AV AR AY AS AG AN AO] with HS
  · isplitr; · iexact Hc
    unfold doneL
    isplitl [AK]; · iexact AK
    isplitl [AV]; · iexact AV
    isplitl [AY]; · iexact AY
    isplitl [AR]; · iexact AR
    isplitl [AG]; · iexact AG
    isplitl [AS]; · iexact AS
    isplitl [AO] <;> iassumption
  imodintro
  isplitl [Hk Hv Hs Hr Hp Hg]
  · isplitl [Hk]; · iexists _; iexact Hk
    isplitl [Hv]; · iexists _; iexact Hv
    isplitl [Hs]; · iexists _; iexact Hs
    isplitl [Hr]; · iexists _; iexact Hr
    isplitl [Hp]; · iexists _; iexact Hp
    iexists _; iexact Hg
  isplitl [HkS]; · iexact HkS
  isplitl [HvS]; · iexact HvS
  isplitl [HS]; · iexact HS
  isplitl [AB]; · iexact AB
  isplitl [HO]
  · unfold ow
    icases HO with ⟨%W, HO⟩
    iapply (owesAt_intro m c t0_0.succ 0 (show (if (t0_0.succ : Fin (cfg0.N + 1)).val = 0 then tallyL (due c) else 0) = 0 from if_neg (by decide)) W)
    iexact HO
  isplitl [Hq]; · iexact Hq
  isplitl [Hb]; · iexact Hb
  isplitl [Hl]; · iexact Hl
  iexact Ho

/-- The staged blocks at the body's beginning and end. -/
def stg (o : sProp 𝕄) : sProp 𝕄 := iprop(qPts c (qC m c) ∗ btPts c (btC m c) ∗ lnPts c (lnC m c) ∗ o)

theorem V₁_arg1 : V₁ m c (Proc.devRef .tc main_arg1) = m ((c : Thread nD τ).loc main_arg1) := V_main_arg1 m c
theorem V₁_arg2 : V₁ m c (Proc.devRef .tc main_arg2) = m ((c : Thread nD τ).loc main_arg2) := V_main_arg2 m c

theorem body_run : iprop(inv0 m c ∗ (dat m c).owesAt 0 t0_0.castSucc ∗ stg m c iprop(∃ f, oPts (F := F) c f))
    ⊢ (WP c flat (fun _ => iprop(inv1 m c ∗ (dat m c).owesAt 0 t0_0.succ ∗ stg m c (oPts c (outC m c)))) : sProp 𝕄) := by
  unfold inv0 inv1 opened stg
  rw [held_rest, held_rest, V₂_ne m c main_arg1 (by decide), V₂_ne m c main_arg2 (by decide), V₂_ne m c main_arg4 (by decide), V₁_arg1, V₁_arg2]
  iintro ⟨⟨Hscr, Hprng, ⟨H1, H2, H4⟩, %κ, #Hc, HaB, Hopen, Htok, Hcred⟩, HO, Hq, Hb, Hl, Ho⟩
  ihave H1 := (k_carve m c) $$ H1
  icases H1 with ⟨HkS, Hk'⟩
  ihave H2 := (v_carve m c) $$ H2
  icases H2 with ⟨HvS, Hv'⟩
  ihave Hin := (flat_intro m c) $$ [HO Hscr HkS HvS HaB Hopen Htok Hcred Hq Hb Hl Ho]
  · isplitl [HO]; · iexact HO
    isplitl [Hscr]; · iexact Hscr
    isplitl [HkS]; · iexact HkS
    isplitl [HvS]; · iexact HvS
    isplitl [HaB]; · iexact HaB
    isplitl [Hopen]; · iexact Hopen
    isplitl [Htok]; · iexact Htok
    isplitl [Hcred]; · iexact Hcred
    isplitl [Hq]; · iexact Hq
    isplitl [Hb]; · iexact Hb
    isplitl [Hl] <;> iassumption
  icases Hin with ⟨Hin, AO⟩
  unfold WP
  iapply (wp_fupd _)
  iapply (flat_run m κ c _) $$ [Hin]
  · isplitr; · iexact Hc
    iexact Hin
  iintro Hout
  imod (flat_elim m κ c) $$ [Hout AO] with ⟨Hscr, HkS, HvS, HS, HB, HO, Hst⟩
  · isplitr; · iexact Hc
    isplitl [Hout] <;> iassumption
  imodintro
  isplitr [HO Hst]
  · isplitl [Hscr]; · iexact Hscr
    isplitl [Hprng]; · iexact Hprng
    isplitl [HkS HvS H4 Hk' Hv']
    · isplitl [HkS Hk']
      · iapply Hk'; iexact HkS
      isplitl [HvS Hv']
      · iapply Hv'; iexact HvS
      iexact H4
    isplitl [HS] <;> iassumption
  isplitl [HO]; · iexact HO
  iexact Hst

theorem owns_q (f : Vec F S8x1x8x128 .f32) : (owns (c : Thread nD τ) qBuf fullShare f : sProp 𝕄) = qPts c f :=
  (owns_whole (c : Thread nD τ) cc0_stg0_0 fullShare f).trans (whole_pts c cc0_stg0_0 f).symm
theorem owns_bt (f : Vec F S8x512 .i32) : (owns (c : Thread nD τ) btBuf fullShare f : sProp 𝕄) = btPts c f :=
  (owns_whole (c : Thread nD τ) cc0_stg1_0 fullShare f).trans (whole_pts c cc0_stg1_0 f).symm
theorem owns_ln (f : Vec F S8x1 .i32) : (owns (c : Thread nD τ) lnBuf fullShare f : sProp 𝕄) = lnPts c f :=
  (owns_whole (c : Thread nD τ) cc0_stg2_0 fullShare f).trans (whole_pts c cc0_stg2_0 f).symm
theorem owns_out (f : Vec F S8x1x8x128 .f32) : (owns (c : Thread nD τ) outBuf fullShare f : sProp 𝕄) = oPts c f :=
  (owns_whole (c : Thread nD τ) cc0_stg3_0 fullShare f).trans (whole_pts c cc0_stg3_0 f).symm

theorem obligation : BodyObligation (dat m c) (defs₀ (F := F)) 𝒱₀ 0 Set.univ := fun t => by
  rw [fin_N0 t, bigSep_W0, bigSep_W0]
  simp only [before_0, before_1, before_2]
  show iprop((if (t0_0.castSucc : Fin (cfg0.N + 1)).val = 0 then inv0 m c else inv1 m c) ∗ (dat m c).owesAt 0 t0_0.castSucc
      ∗ (∃ d : (cfg0.win 0).block.Idx → Elt F (cfg0.win 0).elt, owns (c : Thread nD τ) qBuf fullShare (qC m c)) ∗ (∃ d : (cfg0.win 1).block.Idx → Elt F (cfg0.win 1).elt, owns (c : Thread nD τ) btBuf fullShare (btC m c))
      ∗ (∃ d : (cfg0.win 2).block.Idx → Elt F (cfg0.win 2).elt, owns (c : Thread nD τ) lnBuf fullShare (lnC m c)) ∗ (∃ d, owns (c : Thread nD τ) outBuf fullShare ((dat m c).before 3 t0_0 d)))
    ⊢ WP c flat fun _ => iprop((if (t0_0.succ : Fin (cfg0.N + 1)).val = 0 then inv0 m c else inv1 m c) ∗ (dat m c).owesAt 0 t0_0.succ
      ∗ owns (c : Thread nD τ) qBuf fullShare (qC m c) ∗ owns (c : Thread nD τ) btBuf fullShare (btC m c)
      ∗ owns (c : Thread nD τ) lnBuf fullShare (lnC m c) ∗ owns (c : Thread nD τ) outBuf fullShare (outC m c))
  rw [if_pos (show (t0_0.castSucc : Fin (cfg0.N + 1)).val = 0 from rfl), if_neg (show ¬(t0_0.succ : Fin (cfg0.N + 1)).val = 0 by decide)]
  simp only [owns_q, owns_bt, owns_ln, owns_out]
  iintro ⟨HI, HO, ⟨%d0, Hq⟩, ⟨%d1, Hb⟩, ⟨%d2, Hl⟩, %d3, Ho⟩
  iapply (body_run m c)
  isplitl [HI]; · iexact HI
  isplitl [HO]; · iexact HO
  unfold stg
  isplitl [Hq]; · iexact Hq
  isplitl [Hb]; · iexact Hb
  isplitl [Hl]; · iexact Hl
  iexists _; iexact Ho

end Cert.KernelIdeal.Talk
-- ==== Proof.Main.lean ====
module

public import proofs.«01_k».proof.Proof.Oblig

@[expose] public noncomputable section

/-! # The run of the whole program -/

namespace Cert.KernelIdeal.Talk

open Idealize Idealize.ShloMosaic Idealize.ShloMosaic.TcCoe Idealize.ShloMosaic.Pipeline Idealize.ShloMosaic.Rounds
open Idealize.ShloMosaic.TalkSites Idealize.ShloMosaic.SiteBlocks
open Idealize.SL Idealize.SL.RA Idealize.SL.BI Idealize.SL.Sem Idealize.SL.ProofMode
open scoped Idealize.SL.BI
open Idealize.SL.BI.BIBase Idealize.SL.BI.Laws
open Cert.KernelIdeal Cert.KernelIdeal.Gen

variable {F : FTy → Type} [FloatOps F] [Named F] (m : (ℓ : Loc nD τ sig) → Buf (Elt F) ℓ) (ρ : Dev nD → PrngReg) (κ : GSem nD τ sig → ℕ) (c : Dev nD)

local notation "𝕄" => MT nD τ sig ℕ (Elt F) ℕ UU ℕ

/-! ## The region -/

theorem region_open : iprop(kept m c ∗ Pipeline.ownSems0 osem c ∗ levAts (L 4) lv) ⊢ (|={Set.univ}=> opened m c : sProp 𝕄) := by
  unfold kept opened ctx
  iintro ⟨⟨%κ, #HI, #HR, HB, Ho, HT, HC⟩, HS, #HL⟩
  imod (open_all m κ c) $$ [Ho HS] with H
  · isplitr
    · unfold ctx
      isplitr; · iexact HI
      isplitr; · iexact HL
      iexact HR
    isplitl [Ho] <;> iassumption
  imodintro
  iexists κ
  isplitr
  · isplitr; · iexact HI
    isplitr; · iexact HL
    iexact HR
  isplitl [HB]; · iexact HB
  isplitl [H]; · iexact H
  isplitl [HT] <;> iassumption

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem due_lv : ∀ c : Dev nD, ∀ x ∈ due c, x.1.1.2 = .tc ∧ 0 < x.2.1 ∧ x.2.1 < 4 := by decide +kernel

theorem cut (t : Fin ((Pipeline.pin (pcfgs (F := F)) adm 0).N + 1)) (g : GSem nD τ sig) (i : ℕ) (h : 0 < (pdats m 0 c).owed t g i) :
    i ∈ L 4 g ∧ (0 : ℕ) < lv g i := by
  have e : (pdats m 0 c).owed t = if t.val = 0 then tallyL (due c) else 0 := rfl
  rw [e] at h
  split at h
  · obtain ⟨x, hx, rfl, rfl⟩ := tallyL_pos h
    obtain ⟨h1, h2, h3⟩ := due_lv c x hx
    exact ⟨mem_L' h1 h3, h2⟩
  · exact absurd h (Nat.lt_irrefl 0)

theorem arr_start (w : Fin 4) : (dat m c).arrAt w 0 = V₁ m c (Proc.devRef .tc (Pipeline.arrRef spec0 w)) := rfl
theorem arr_end (w : Fin 4) : (dat m c).arrAt w cfg0.N = V₂ m c (Proc.devRef .tc (Pipeline.arrRef spec0 w)) := by
  fin_cases w
  · exact ((dat m c).arrAt_in 0 rfl _).trans (V₂_ne m c main_arg0 (by decide)).symm
  · exact ((dat m c).arrAt_in 1 rfl _).trans (V₂_ne m c main_arg3 (by decide)).symm
  · exact ((dat m c).arrAt_in 2 rfl _).trans (V₂_ne m c main_v1 (by decide)).symm
  · exact (arr_out m c).trans (V₂_v2 m c).symm

abbrev RSeg := Pipeline.RegionSeg (pcfgs (F := F)) adm (pdats m) 0 defs₀ 𝒱₀ (L 4) lv 0

set_option backward.isDefEq.respectTransparency.types false in
def reg0 : RSeg m :=
  Pipeline.RegionSeg.ofTalk (pcfgs (F := F)) adm (pdats m) 0 defs₀ 𝒱₀ (L 4) lv 0 osem (by decide : Pipeline.OwnSemFacts spec0 osem)
    rest rest (Finset.Subset.refl _) kitP rfl (fun c => (obligation m c).loose)
    (fun _ => 0) (fun c => tallyL (due c)) (fun c => (owed_zero m c).trans (zero_add _).symm) (owed_last m) (fun _ => rfl)
    (fun c w => by unfold Dat.share; split <;> rfl)
    (V₁ m) (V₂ m) (fun _ b hb => absurd hb (by rw [Finset.sdiff_self]; exact Finset.notMem_empty b))
    (kept m) (fun c => semVal (barCell c) 0) (opened m) (fun c => semVal (barCell c) 0) (region_open m)
    (fun c => .rfl) (fun c => .rfl)
    (fun c => by iintro H; imodintro; iexact H)
    (fun _ => 0)
    ⟨fun c w _ => mem_L' rfl (by decide), fun _ _ _ => Nat.zero_le _, fun c t g i h => cut m c t g i h⟩
    (fun _ => iprop(emp))
    (arr_start m) (arr_end m)

/-! ## The host stretch -/

/-- A device's buffers that outlive every region. -/
def bufs : Finset (DevRef τ sig) := {Proc.devRef .tc main_arg0, Proc.devRef .tc main_arg3, Proc.devRef .tc main_v1, Proc.devRef .tc main_v2,
  Proc.devRef .tc main_arg1, Proc.devRef .tc main_arg2, Proc.devRef .tc main_arg4}

theorem bufs_uc : bufs = (StableHlo.tcRefs τ sig).filter fun b => ¬ b.isScoped = true := by decide

theorem held_bufs (W : Valuation τ sig (Elt F)) : (StableHlo.held (c : Thread nD τ) bufs W : sProp 𝕄)
    = iprop(StableHlo.held (c : Thread nD τ) (Pipeline.arrRefs (τ := τ) spec0) W ∗ StableHlo.held (c : Thread nD τ) rest W) := by
  have h : bufs = Pipeline.arrRefs (τ := τ) spec0 ∪ rest := by decide
  unfold StableHlo.held
  rw [h, bigSep_union (by decide)]; rfl

/-- What a device carries beside its buffers into the region. -/
def carry : sProp 𝕄 := iprop(kept m c ∗ (∃ r, prngReg c r) ∗ ow c (due c))

abbrev V₀ : Valuation τ sig (Elt F) := fun b => m (c, b)

theorem host_sub : ∀ op ∈ (hostOps0 : List (HloOp τ sig (Elt F))), op.bufs ⊆ bufs := by
  intro op hop
  obtain rfl := List.mem_singleton.mp hop
  show ({Proc.devRef .tc main_arg4, Proc.devRef .tc main_v1} : Finset (DevRef τ sig)) ⊆ bufs
  decide

def seg0 : Pipeline.HostSeg (Ix := ℕ) (Name := ℕ) (U := UU) (Lvl := ℕ) (pcfgs (F := F)) defs₀ 𝒱₀ (L 4) lv :=
  Pipeline.HostSeg.ofOps _ _ _ _ _ bufs hostOps0 host_sub (List.forall_iff_forall_mem.mp hostOps0_fresh) (V₀ m) (carry m)

def segs : List (Pipeline.Seg (pcfgs (F := F)) adm (pdats m) 0 defs₀ 𝒱₀ (L 4) lv) := [.host (seg0 m), .region (reg0 m)]

theorem main_eq : main (F := F) c = Pipeline.Seg.run (segs m) := main_segs _ _ _ _ _ _ (seg0 m) (reg0 m) rfl c

theorem reg0_pre : iprop(StableHlo.held (c : Thread nD τ) bufs (V₁ m c) ∗ carry m c) ⊢ (reg0 m).pre c := by
  show _ ⊢ iprop(StableHlo.held (c : Thread nD τ) (Pipeline.arrRefs (τ := τ) spec0) (V₁ m c) ∗ (∃ r, prngReg c r)
    ∗ (StableHlo.held (c : Thread nD τ) rest (V₁ m c) ∗ emp) ∗ kept m c ∗ ∃ Wd, owes (c : Thread nD τ) (0 + tallyL (due c)) Wd)
  rw [held_bufs, zero_add]
  unfold carry ow
  iintro ⟨⟨Ha, Hr⟩, HK, Hp, HO⟩
  isplitl [Ha]; · iexact Ha
  isplitl [Hp]; · iexact Hp
  isplitl [Hr]
  · isplitl [Hr]; · iexact Hr
    iempintro
  isplitl [HK]; · iexact HK
  iexact HO

theorem reg0_post : (reg0 m).post c
    ⊢ iprop((StableHlo.held (c : Thread nD τ) bufs (V₂ m c) ∗ semVal (barCell c) 0) ∗ ∃ W, owes (c : Thread nD τ) (0 : CellTallies nD τ sig ℕ) W) := by
  show iprop(StableHlo.held (c : Thread nD τ) (Pipeline.arrRefs (τ := τ) spec0) (V₂ m c) ∗ (∃ r, prngReg c r)
    ∗ (StableHlo.held (c : Thread nD τ) rest (V₂ m c) ∗ emp) ∗ semVal (barCell c) 0 ∗ ∃ Wd, owes (c : Thread nD τ) (0 : CellTallies nD τ sig ℕ) Wd) ⊢ _
  rw [held_bufs]
  iintro ⟨Ha, -, ⟨Hr, -⟩, Hb, HO⟩
  isplitr [HO]
  · isplitl [Ha Hr]
    · isplitl [Ha] <;> iassumption
    iexact Hb
  iexact HO

/-! ## The launch -/

def u₀ : UU :=
  (initOf (Pipeline.cells (Pipeline.pin (pcfgs (F := F)) adm) cellOf_inj) (Pipeline.launchToks (Pipeline.pin (pcfgs (F := F)) adm) cellOf_inj),
    launchOf fam.S fam.Sd fam.T)

/-- The protocol's launch element, on device 0 until it is dealt. -/
def G (c : Dev nD) : sProp 𝕄 := if c = 0 then BI.own (ER (launchOf fam.S fam.Sd fam.T)) else iprop(emp)

theorem bigSep_G : (bigSep Finset.univ G : sProp 𝕄) = BI.own (ER (launchOf fam.S fam.Sd fam.T)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

theorem bufs_held (W : Valuation τ sig (Elt F)) : (unscopedBufs c (fun b => W b) : sProp 𝕄) = StableHlo.held (c : Thread nD τ) bufs W := by
  rw [bufs_uc]
  unfold unscopedBufs StableHlo.held StableHlo.tcRefs
  rw [Finset.filter_map, BI.bigSep_map]
  rfl

theorem bar_val : (unscopedSems0 c : sProp 𝕄) = semVal (barCell c) 0 := by
  unfold unscopedSems0
  rw [show (Finset.univ.filter fun sm : SemLoc sig => ¬ sm.isScoped .tc) = {SemLoc.reg barrier0} from by decide, BI.bigSep_singleton]

/-- What a device keeps of the cells, under one map of names. -/
def dealt (c : Dev nD) : sProp 𝕄 := iprop(atPos ER (barCell c) 0 ∅ 0 ∗ (bigSep (fam.dorm 0) fun s => openTok ER (cell c s)) ∗ tokens c)

theorem fund : iprop((bigSep Finset.univ fun c : Dev nD => semVal (barCell c) 0) ∗ BI.own (ER (launchOf fam.S fam.Sd fam.T)))
    ⊢ (iprop(|={Set.univ}=> ∃ κ, (fam.cellInvs ER (Rd m) κ ∗ bigSep Finset.univ fun n : Dev nD => reached ER (barCell n) 0) ∗ bigSep Finset.univ dealt) : sProp 𝕄) := by
  have hone (Φ : Fin 1 → sProp 𝕄) : bigSep Finset.univ Φ = Φ 0 := by
    rw [show (Finset.univ : Finset (Fin 1)) = {0} from rfl, bigSep_singleton]
  iintro ⟨Hv, Hu⟩
  ihave Hv' := (show (bigSep Finset.univ fun c : Dev nD => semVal (barCell c) 0 : sProp 𝕄) ⊢ bigSep fam.S fun g => semVal g 0 from
    Entails.of_eq (fam.bigSep_S fun g => (semVal g 0 : sProp 𝕄)).symm) $$ Hv
  imod (Rounds.fund_launch ER (Rd m) fam.disj (fun g _ h => h) fam.T (Es := Set.univ)) $$ [Hv' Hu] with ⟨%κ, -, #HI, #Hr, Hat, Hop, Htok⟩
  · isplitl [Hv'] <;> iassumption
  imodintro
  ihave Hr' := (Entails.of_eq (fam.bigSep_S fun g => (reached ER g 0 : sProp 𝕄))) $$ Hr
  ihave Hat' := (Entails.of_eq (fam.bigSep_S fun g => (atPos ER g 0 ∅ 0 : sProp 𝕄))) $$ Hat
  ihave Hop' := (Entails.of_eq (fam.bigSep_Sd fun g => (openTok ER g : sProp 𝕄))) $$ Hop
  ihave Htok' := (Entails.of_eq (fam.bigSep_T fun x => (dutyTok ER x.1 x.2.1 x.2.2 : sProp 𝕄))) $$ Htok
  iexists κ
  isplitr
  · isplitr; · unfold Fam.cellInvs; iexact HI
    iexact Hr'
  unfold dealt
  iapply (Entails.of_eq (bigSep_sep' _ _ _).symm)
  isplitl [Hat']
  · iapply (show (bigSep Finset.univ fun c : Dev nD => atPos ER ((c : Thread nD τ), fam.bar) 0 ∅ 0) ⊢ (bigSep Finset.univ fun c : Dev nD => atPos ER (barCell c) 0 ∅ 0 : sProp 𝕄) from .rfl)
    iexact Hat'
  iapply (Entails.of_eq (bigSep_sep' _ _ _).symm)
  isplitl [Hop']
  · iapply (show (bigSep Finset.univ fun c : Dev nD => bigSep Finset.univ fun j : Fin 1 => bigSep (fam.dorm j) fun s => openTok ER (cell c s))
      ⊢ (bigSep Finset.univ fun c : Dev nD => bigSep (fam.dorm 0) fun s => openTok ER (cell c s) : sProp 𝕄)
      from bigSep_mono fun c _ => Entails.of_eq (hone _))
    iexact Hop'
  iapply (show (bigSep Finset.univ fun c : Dev nD => bigSep Finset.univ fun j : Fin 1 => bigSep (fam.toks c j) fun x => dutyTok ER x.1 x.2.1 x.2.2)
      ⊢ (bigSep Finset.univ fun c : Dev nD => tokens c : sProp 𝕄)
      from bigSep_mono fun c _ => (Entails.of_eq (hone _)).trans (tokens_intro c))
  iexact Htok'

/-- What a device has at the launch beside the cells. -/
def bundle (c : Dev nD) : sProp 𝕄 :=
  iprop(StableHlo.held (c : Thread nD τ) bufs (V₀ m c) ∗ credits c ∗ owes (c : Thread nD τ) (tallyL (due c)) ∅ ∗ ∃ r, prngReg c r)

abbrev T₀ (c : Dev nD) : sProp 𝕄 := iprop(StableHlo.held (c : Thread nD τ) bufs (V₀ m c) ∗ carry m c)
abbrev Tₙ (c : Dev nD) : sProp 𝕄 := iprop(StableHlo.held (c : Thread nD τ) bufs (V₂ m c) ∗ semVal (barCell c) 0)

theorem T₀_intro : iprop((fam.cellInvs ER (Rd m) κ ∗ bigSep Finset.univ fun n : Dev nD => reached ER (barCell n) 0) ∗ (dealt c ∗ bundle m c)) ⊢ T₀ m c := by
  unfold dealt bundle T₀ carry kept ow
  iintro ⟨⟨#HI, #HR⟩, ⟨HB, Ho, HT⟩, Hh, HC, HO, Hp⟩
  isplitl [Hh]; · iexact Hh
  isplitl [HB Ho HT HC]
  · iexists κ
    isplitr; · iexact HI
    isplitr; · iexact HR
    isplitl [HB]; · iexact HB
    isplitl [Ho]; · iexact Ho
    isplitl [HT] <;> iassumption
  isplitl [Hp]; · iexact Hp
  iexists ∅; iexact HO

theorem init :
    iprop((bigSep Finset.univ fun c : Dev nD => iprop(unscopedBufs c (fun b => m ((c : Thread nD τ).loc b)) ∗ unscopedSems0 c
          ∗ owes (c : Thread nD τ) (tallyL (due c)) ∅ ∗ Pipeline.launchCred (fun d => tallyL (due d)) c ∗ prngReg c (ρ c) ∗ G c)) ∗ levAts (L 4) lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (tallyL (due c)) ∅ ∗ Pipeline.launchCred (fun d => tallyL (due d)) c ∗ prngReg c (ρ c) ∗ G c)
      ⊢ (iprop(bundle m c ∗ (semVal (barCell c) 0 ∗ G c)) : sProp 𝕄) := by
    rw [show (unscopedBufs c (fun b => m ((c : Thread nD τ).loc b)) : sProp 𝕄) = StableHlo.held (c : Thread nD τ) bufs (V₀ m c) from bufs_held c (V₀ m c), bar_val]
    unfold bundle
    iintro ⟨Hh, Hv, HO, HC, Hp, HG⟩
    ihave HC := (credits_intro c) $$ HC
    isplitr [Hv HG]
    · isplitl [Hh]; · iexact Hh
      isplitl [HC]; · iexact HC
      isplitl [HO]; · iexact HO
      iexists _; iexact Hp
    isplitl [Hv] <;> iassumption
  iintro ⟨H, -⟩
  ihave H' := (show (bigSep Finset.univ fun c : Dev nD => iprop(unscopedBufs c (fun b => m ((c : Thread nD τ).loc b)) ∗ unscopedSems0 c
          ∗ owes (c : Thread nD τ) (tallyL (due c)) ∅ ∗ Pipeline.launchCred (fun d => tallyL (due d)) c ∗ prngReg c (ρ c) ∗ G c))
      ⊢ (bigSep Finset.univ fun c : Dev nD => iprop(bundle m c ∗ (semVal (barCell c) 0 ∗ G c)) : sProp 𝕄) from bigSep_mono fun c _ => hcore c) $$ H
  ihave H2 := (Entails.of_eq (bigSep_sep' _ _ _)) $$ H'; icases H2 with ⟨HB, H3⟩
  ihave H4 := (Entails.of_eq (bigSep_sep' _ _ _)) $$ H3; icases H4 with ⟨Hv, HG⟩
  ihave Hu := (Entails.of_eq (bigSep_G (F := F))) $$ HG
  imod (fund m) $$ [Hv Hu] with ⟨%κ, #HR, HD⟩
  · isplitl [Hv] <;> iassumption
  imodintro
  iapply (bigSep_with_persistent (R := iprop(fam.cellInvs ER (Rd m) κ ∗ bigSep Finset.univ fun n : Dev nD => reached ER (barCell n) 0))
    (Φ := fun c => iprop(dealt c ∗ bundle m c)) fun c _ => T₀_intro m κ c)
  isplitr; · iexact HR
  iapply (Entails.of_eq (bigSep_sep' _ _ _).symm)
  isplitl [HD] <;> iassumption

/-- The buffers one by one. -/
theorem bufs_list (W : Valuation τ sig (Elt F)) : (StableHlo.held (c : Thread nD τ) bufs W : sProp 𝕄)
    = iprop(pt c main_arg0 (W main_arg0) ∗ pt c main_arg3 (W main_arg3) ∗ pt c main_v1 (W main_v1) ∗ pt c main_v2 (W main_v2)
      ∗ pt c main_arg1 (W main_arg1) ∗ pt c main_arg2 (W main_arg2) ∗ pt c main_arg4 (W main_arg4)) := by
  unfold StableHlo.held
  rw [bigSep_eq_bigSepL_of_eq [Proc.devRef .tc main_arg0, Proc.devRef .tc main_arg3, Proc.devRef .tc main_v1, Proc.devRef .tc main_v2,
    Proc.devRef .tc main_arg1, Proc.devRef .tc main_arg2, Proc.devRef .tc main_arg4] (by decide) (by decide)]
  rfl

theorem unscoped_bar : ∀ s : SemLoc sig, s.isScoped .tc = false → s = .reg barrier0 := by decide

/-- What a device's memory and its barrier hold in the end. -/
def Final (c : Dev nD) (s : MemSt nD τ sig (Elt F)) : Prop :=
  (s.mem ((c : Thread nD τ).loc main_arg0) = m ((c : Thread nD τ).loc main_arg0) ∧ s.mem ((c : Thread nD τ).loc main_arg1) = m ((c : Thread nD τ).loc main_arg1)
    ∧ s.mem ((c : Thread nD τ).loc main_arg2) = m ((c : Thread nD τ).loc main_arg2) ∧ s.mem ((c : Thread nD τ).loc main_arg3) = m ((c : Thread nD τ).loc main_arg3)
    ∧ s.mem ((c : Thread nD τ).loc main_arg4) = m ((c : Thread nD τ).loc main_arg4)) ∧ s.mem ((c : Thread nD τ).loc main_v2) = outC m c

set_option backward.isDefEq.respectTransparency.types false in
/-- From any memory and counters at zero, all sixteen devices end, their arguments unchanged, the result of the last stretch in `main_v2` and every counter back at zero. -/
theorem run_main : θ_run defs (onTc (τ := τ) (main (F := F))) ⟨m, fun _ => 0, ρ⟩
    (fun r => (∀ c : Dev nD, Final m c r.2) ∧ r.2.sem = fun _ => 0) :=
  Pipeline.θ_run_regions_kit_sems (pcfgs (F := F)) adm (pdats m) 0 cellOf_inj EP defs₀ 𝒱₀ (L 4) lv m ρ main (segs m)
    (fun c Q => by rw [main_eq m c])
    (by simp only [segs, Pipeline.Seg.pipes_host, Pipeline.Seg.pipes_region, Pipeline.Seg.pipes_nil]; decide)
    (O₀ := fun c => tallyL (due c)) (hL := hL 4) (G := G) (u₀ := u₀ (F := F))
    (hu₀ := by
      unfold u₀
      iintro Hu
      ihave H := (ownU_pair _ _) $$ Hu
      icases H with ⟨HP, HX⟩
      imodintro
      isplitl [HP]; · iexact HP
      rw [bigSep_G]; iexact HX)
    (T₀ := T₀ m) (Tₙ := Tₙ m)
    (hch := ⟨fun c => .rfl, fun c => reg0_pre m c, fun c => reg0_post m c⟩)
    (hinit := init m ρ)
    (QY := fun c s => Final m c s ∧ s.sem (barCell c) = 0)
    (hfin := fun c s' => by
      dsimp only [Tₙ]; rw [bufs_list, V₂_v2, V₂_ne m c main_arg0 (by decide), V₂_ne m c main_arg1 (by decide), V₂_ne m c main_arg2 (by decide),
        V₂_ne m c main_arg3 (by decide), V₂_ne m c main_arg4 (by decide)]
      iintro ⟨⟨⟨H0, H3, -, Hv, H1, H2, H4⟩, Hb⟩, HSI⟩
      icombine HSI H0 gives %h0
      icombine HSI H1 gives %h1
      icombine HSI H2 gives %h2
      icombine HSI H3 gives %h3
      icombine HSI H4 gives %h4
      icombine HSI Hv gives %hv
      icombine HSI Hb gives %hb
      imodintro
      isplitr
      · ipureintro
        exact ⟨⟨⟨(Buf.eq_of_forall_mem_univ h0).trans (V_main_arg0 m c), (Buf.eq_of_forall_mem_univ h1).trans (V_main_arg1 m c),
          (Buf.eq_of_forall_mem_univ h2).trans (V_main_arg2 m c), (Buf.eq_of_forall_mem_univ h3).trans (V_main_arg3 m c),
          (Buf.eq_of_forall_mem_univ h4).trans (V_main_arg4 m c)⟩, Buf.eq_of_forall_mem_univ hv⟩, by simpa using hb⟩
      iexact HSI)
    (hQ := fun s h hs => ⟨fun c => (h c).1,
      sem_eq_zero hs fun c sm hsm => by
        obtain rfl := unscoped_bar sm hsm
        exact (h c).2⟩)

end Cert.KernelIdeal.Talk
-- ==== Proof.Softmax.lean ====
module

public import proofs.«01_k».proof.Proof.Main
public import Idealize.ShloMosaic.Lib.Pointwise

@[expose] public section

/-! # Softmax sums over pages

Scores are reals `s p t` of page `p` and slot `t`, values `v p t` are any extended reals. A row attends to the
positions `j` with `ok j`, and position `j` names page `pg j`. A page named several times counts as often. Every
partial result is a triple: a maximum, a sum of weights and a weighted sum of values, both scaled by the exponential
of minus that maximum. Which real the maximum is never matters. -/

noncomputable section

namespace Cert.Attend

open Idealize.ShloMosaic

/-! ## Extended reals -/

theorem coe_sum {ι : Type*} (S : Finset ι) (f : ι → ℝ) : ((∑ i ∈ S, f i : ℝ) : EReal) = ∑ i ∈ S, (f i : EReal) := by
  classical
  induction S using Finset.induction_on with
  | empty => simp
  | insert a S h ih => rw [Finset.sum_insert h, Finset.sum_insert h, EReal.coe_add, ih]

theorem mul_add {c : ℝ} (hc : 0 ≤ c) (x y : EReal) : (c : EReal) * (x + y) = c * x + c * y :=
  EReal.left_distrib_of_nonneg_of_ne_top (by exact_mod_cast hc) (EReal.coe_ne_top c) x y

theorem mul_sum {ι : Type*} (S : Finset ι) {c : ℝ} (hc : 0 ≤ c) (f : ι → EReal) :
    (c : EReal) * ∑ i ∈ S, f i = ∑ i ∈ S, (c : EReal) * f i := by
  classical
  induction S using Finset.induction_on with
  | empty => simp
  | insert a S h ih => rw [Finset.sum_insert h, Finset.sum_insert h, mul_add hc, ih]

theorem sum_mul {ι : Type*} (S : Finset ι) (f : ι → ℝ) (hf : ∀ i, 0 ≤ f i) (x : EReal) :
    ((∑ i ∈ S, f i : ℝ) : EReal) * x = ∑ i ∈ S, (f i : EReal) * x := by
  classical
  induction S using Finset.induction_on with
  | empty => simp
  | insert a S h ih =>
    rw [Finset.sum_insert h, Finset.sum_insert h, EReal.coe_add, ← ih]
    exact EReal.right_distrib_of_nonneg (by exact_mod_cast hf a) (by exact_mod_cast Finset.sum_nonneg fun i _ => hf i)

/-- A maximum of reals and minus infinities, at least one of them real, is real. -/
theorem fold_real {ι : Type*} (S : Finset ι) (f : ι → EReal) (ht : ∀ i ∈ S, f i ≠ ⊤) (hb : ∃ i ∈ S, f i ≠ ⊥) :
    ∃ r : ℝ, S.fold max ⊥ f = (r : EReal) := by
  have h1 : S.fold max ⊥ f < ⊤ := Finset.fold_max_lt _ |>.2 ⟨bot_lt_top, fun i hi => lt_top_iff_ne_top.2 (ht i hi)⟩
  have h2 : ⊥ < S.fold max ⊥ f := by
    obtain ⟨i, hi, h⟩ := hb
    exact Finset.lt_fold_max _ |>.2 (Or.inr ⟨i, hi, bot_lt_iff_ne_bot.2 h⟩)
  exact ⟨_, (EReal.coe_toReal h1.ne h2.ne').symm⟩

/-! ## The row -/

section
variable (ok : Fin 512 → Prop) [DecidablePred ok] (pg : Fin 512 → Fin 1024) (s : Fin 1024 → Fin 16 → ℝ)
  (v : Fin 1024 → Fin 16 → EReal)

/-- How often the row attends to page `p`. -/
def count (p : Fin 1024) : ℝ := ∑ j, if ok j ∧ pg j = p then 1 else 0

/-- The weight of a token before any scaling. -/
def weight (p : Fin 1024) (t : Fin 16) : ℝ := count ok pg p * Real.exp (s p t)

/-- All weights. -/
def total : ℝ := ∑ p, ∑ t, weight ok pg s p t

/-- The attended value: weighted values over all weights. -/
def answer : EReal := ((1 / total ok pg s : ℝ) : EReal) * ∑ p, ∑ t, (weight ok pg s p t : EReal) * v p t

theorem count_nonneg (p : Fin 1024) : 0 ≤ count ok pg p :=
  Finset.sum_nonneg fun j _ => by split <;> norm_num

theorem weight_nonneg (p : Fin 1024) (t : Fin 16) : 0 ≤ weight ok pg s p t :=
  mul_nonneg (count_nonneg ok pg p) (Real.exp_pos _).le

theorem total_pos (h : ∃ j, ok j) : 0 < total ok pg s := by
  obtain ⟨j, hj⟩ := h
  have hc : 0 < count ok pg (pg j) :=
    Finset.sum_pos' (fun i _ => by split <;> norm_num) ⟨j, Finset.mem_univ _, by rw [if_pos ⟨hj, rfl⟩]; norm_num⟩
  refine Finset.sum_pos' (fun p _ => Finset.sum_nonneg fun t _ => weight_nonneg ok pg s p t) ⟨pg j, Finset.mem_univ _, ?_⟩
  exact Finset.sum_pos' (fun t _ => weight_nonneg ok pg s _ t) ⟨0, Finset.mem_univ _, mul_pos hc (Real.exp_pos _)⟩

/-- Attended positions, page by page. -/
theorem sum_pages (f : Fin 1024 → EReal) :
    (∑ j, if ok j then f (pg j) else 0) = ∑ p, (count ok pg p : EReal) * f p := by
  have e : ∀ p, (count ok pg p : EReal) * f p = ∑ j, if ok j ∧ pg j = p then f p else 0 := fun p => by
    rw [count, sum_mul _ _ (fun j => by split <;> norm_num)]
    refine Finset.sum_congr rfl fun j _ => ?_
    split
    · rw [EReal.coe_one, one_mul]
    · rw [EReal.coe_zero, zero_mul]
  simp only [e]
  rw [Finset.sum_comm]
  refine Finset.sum_congr rfl fun j _ => ?_
  by_cases h : ok j
  · simp only [h, true_and, if_true]
    rw [Finset.sum_ite_eq]
    simp
  · simp [h]

theorem sum_pages_real (f : Fin 1024 → ℝ) : (∑ j, if ok j then f (pg j) else 0) = ∑ p, count ok pg p * f p := by
  have e : ∀ p, count ok pg p * f p = ∑ j, if ok j ∧ pg j = p then f p else 0 := fun p => by
    rw [count, Finset.sum_mul]
    refine Finset.sum_congr rfl fun j _ => ?_
    split <;> simp
  simp only [e]
  rw [Finset.sum_comm]
  refine Finset.sum_congr rfl fun j _ => ?_
  by_cases h : ok j
  · simp only [h, true_and, if_true]
    rw [Finset.sum_ite_eq]
    simp
  · simp [h]

/-- Softmax over positions, normalised before the values are summed, is the answer. -/
theorem softmax_eq (h : ∃ j, ok j) (M : ℝ) :
    (∑ j, ∑ t, v (pg j) t * Ideal.div (if ok j then ((Real.exp (s (pg j) t - M) : ℝ) : EReal) else 0)
      (∑ j, ∑ t, if ok j then ((Real.exp (s (pg j) t - M) : ℝ) : EReal) else 0)) = answer ok pg s v := by
  have hz := total_pos ok pg s h
  have hL : (∑ j, ∑ t, if ok j then ((Real.exp (s (pg j) t - M) : ℝ) : EReal) else 0)
      = ((Real.exp (-M) * total ok pg s : ℝ) : EReal) := by
    have e1 : ∀ j, (∑ t : Fin 16, if ok j then ((Real.exp (s (pg j) t - M) : ℝ) : EReal) else 0)
        = if ok j then ((∑ t : Fin 16, Real.exp (s (pg j) t - M) : ℝ) : EReal) else 0 := fun j => by
      by_cases hj : ok j
      · simp only [hj, if_true]; rw [coe_sum]
      · simp [hj]
    simp only [e1]
    rw [sum_pages ok pg (fun p => ((∑ t : Fin 16, Real.exp (s p t - M) : ℝ) : EReal))]
    simp only [← EReal.coe_mul]
    rw [← coe_sum]
    congr 1
    rw [total, Finset.mul_sum]
    refine Finset.sum_congr rfl fun p _ => ?_
    rw [Finset.mul_sum, Finset.mul_sum]
    refine Finset.sum_congr rfl fun t _ => ?_
    rw [weight, sub_eq_add_neg, Real.exp_add]; ring
  have hL0 : Real.exp (-M) * total ok pg s ≠ 0 := (mul_pos (Real.exp_pos _) hz).ne'
  rw [hL]
  simp only [Ideal.div_coe hL0]
  have e2 : ∀ j, (∑ t, v (pg j) t * ((if ok j then ((Real.exp (s (pg j) t - M) : ℝ) : EReal) else 0)
        * ((1 / (Real.exp (-M) * total ok pg s) : ℝ) : EReal)))
      = if ok j then (fun p => ∑ t, ((Real.exp (s p t) / total ok pg s : ℝ) : EReal) * v p t) (pg j) else 0 := fun j => by
    by_cases hj : ok j
    · simp only [hj, if_true]
      refine Finset.sum_congr rfl fun t _ => ?_
      rw [mul_comm, ← EReal.coe_mul]
      congr 2
      rw [sub_eq_add_neg, Real.exp_add]
      have := (Real.exp_pos (-M)).ne'
      field_simp
    · simp [hj]
  simp only [e2]
  rw [sum_pages ok pg (fun p => ∑ t, ((Real.exp (s p t) / total ok pg s : ℝ) : EReal) * v p t), answer,
    mul_sum _ (by positivity)]
  refine Finset.sum_congr rfl fun p _ => ?_
  rw [mul_sum _ (count_nonneg ok pg p), mul_sum _ (by positivity)]
  refine Finset.sum_congr rfl fun t _ => ?_
  rw [← mul_assoc, ← mul_assoc, ← EReal.coe_mul, ← EReal.coe_mul, weight]
  congr 2
  ring
end

/-! ## Partial results -/

/-- The maximum `x`, the sum `l` and the weighted sum `o` stand for unscaled sums `a` and `n`. -/
def Stands (x l o : EReal) (a : ℝ) (n : EReal) : Prop :=
  ∃ μ : ℝ, x = μ ∧ l = ((Real.exp (-μ) * a : ℝ) : EReal) ∧ o = ((Real.exp (-μ) : ℝ) : EReal) * n

/-- Tokens of real scores `s`, multiplicities `w` and values `v`. -/
theorem stands_tokens {ι : Type*} [Fintype ι] [Nonempty ι] (s w : ι → ℝ) (hw : ∀ i, 0 ≤ w i) (v : ι → EReal) :
    Stands (Finset.univ.fold max ⊥ fun i => (s i : EReal))
      (∑ i, Ideal.exp ((s i : EReal) - Finset.univ.fold max ⊥ fun i => (s i : EReal)) * (w i : EReal))
      (∑ i, Ideal.exp ((s i : EReal) - Finset.univ.fold max ⊥ fun i => (s i : EReal)) * (w i : EReal) * v i)
      (∑ i, w i * Real.exp (s i)) (∑ i, ((w i * Real.exp (s i) : ℝ) : EReal) * v i) := by
  obtain ⟨μ, hμ⟩ := fold_real Finset.univ (fun i => (s i : EReal)) (fun i _ => EReal.coe_ne_top _)
    ⟨Classical.arbitrary ι, Finset.mem_univ _, EReal.coe_ne_bot _⟩
  have e : ∀ i, Real.exp (s i - μ) * w i = Real.exp (-μ) * (w i * Real.exp (s i)) := fun i => by
    rw [sub_eq_add_neg, Real.exp_add]; ring
  refine ⟨μ, hμ, ?_, ?_⟩
  · rw [hμ, Finset.mul_sum, coe_sum]
    refine Finset.sum_congr rfl fun i _ => ?_
    rw [← EReal.coe_sub, Ideal.exp_coe, ← EReal.coe_mul, e]
  · rw [hμ, mul_sum _ (Real.exp_pos _).le]
    refine Finset.sum_congr rfl fun i _ => ?_
    rw [← EReal.coe_sub, Ideal.exp_coe, ← EReal.coe_mul, e, EReal.coe_mul, mul_assoc]

theorem stands_eq {x l o x' l' o' : EReal} {a a' : ℝ} {n n' : EReal} (hx : x = x') (hl : l = l') (ho : o = o') (ha : a' = a) (hn : n' = n)
    (h : Stands x' l' o' a' n') : Stands x l o a n := by
  subst hx hl ho ha hn
  exact h

/-- Tokens whose scores, multiplicities and values are known. -/
theorem stands_known {ι : Type*} [Fintype ι] [Nonempty ι] (X W V : ι → EReal) (s w : ι → ℝ) (hw : ∀ i, 0 ≤ w i) (v : ι → EReal)
    (hX : ∀ i, X i = s i) (hW : ∀ i, W i = w i) (hV : ∀ i, V i = v i) :
    Stands (Finset.univ.fold max ⊥ X) (∑ i, Ideal.exp (X i - Finset.univ.fold max ⊥ X) * W i)
      (∑ i, Ideal.exp (X i - Finset.univ.fold max ⊥ X) * W i * V i)
      (∑ i, w i * Real.exp (s i)) (∑ i, ((w i * Real.exp (s i) : ℝ) : EReal) * v i) := by
  obtain rfl : X = fun i => (s i : EReal) := funext hX
  obtain rfl : W = fun i => (w i : EReal) := funext hW
  obtain rfl : V = v := funext hV
  exact stands_tokens s w hw V

/-- Two partial results, rescaled to the larger maximum and added. -/
theorem stands_merge {x l o x' l' o' : EReal} {a a' : ℝ} {n n' : EReal} (h : Stands x l o a n) (h' : Stands x' l' o' a' n') :
    Stands (max x x') (l * Ideal.exp (x - max x x') + l' * Ideal.exp (x' - max x x'))
      (o * Ideal.exp (x - max x x') + o' * Ideal.exp (x' - max x x')) (a + a') (n + n') := by
  obtain ⟨μ, rfl, rfl, rfl⟩ := h
  obtain ⟨μ', rfl, rfl, rfl⟩ := h'
  have hm : max (μ : EReal) (μ' : EReal) = ((max μ μ' : ℝ) : EReal) :=
    (EReal.coe_strictMono.monotone.map_max (a := μ) (b := μ')).symm
  have e : ∀ r : ℝ, Real.exp (-r) * Real.exp (r - max μ μ') = Real.exp (-max μ μ') := fun r => by
    rw [← Real.exp_add]; congr 1; ring
  rw [hm]
  refine ⟨max μ μ', rfl, ?_, ?_⟩
  · simp only [← EReal.coe_sub, Ideal.exp_coe, ← EReal.coe_mul, ← EReal.coe_add]
    congr 1
    rw [mul_right_comm, e, mul_right_comm, e]; ring
  · simp only [← EReal.coe_sub, Ideal.exp_coe]
    rw [mul_right_comm, ← EReal.coe_mul, e, mul_right_comm, ← EReal.coe_mul, e, ← mul_add (Real.exp_pos _).le]

/-- Several partial results, rescaled to the largest maximum, added and divided. -/
theorem stands_divide {ι : Type*} [Fintype ι] [Nonempty ι] (x l o : ι → EReal) (a : ι → ℝ) (n : ι → EReal)
    (h : ∀ i, Stands (x i) (l i) (o i) (a i) (n i)) (ha : 0 < ∑ i, a i) :
    Ideal.div (∑ i, o i * Ideal.exp (x i - Finset.univ.fold max ⊥ x)) (∑ i, l i * Ideal.exp (x i - Finset.univ.fold max ⊥ x))
      = ((1 / ∑ i, a i : ℝ) : EReal) * ∑ i, n i := by
  choose μ hx hl ho using h
  obtain ⟨M, hM⟩ := fold_real Finset.univ x (fun i _ => hx i ▸ EReal.coe_ne_top _)
    ⟨Classical.arbitrary ι, Finset.mem_univ _, hx _ ▸ EReal.coe_ne_bot _⟩
  have e : ∀ r : ℝ, Real.exp (-r) * Real.exp (r - M) = Real.exp (-M) := fun r => by
    rw [← Real.exp_add]; congr 1; ring
  have h1 : (∑ i, l i * Ideal.exp (x i - (M : EReal))) = ((Real.exp (-M) * ∑ i, a i : ℝ) : EReal) := by
    rw [Finset.mul_sum, coe_sum]
    refine Finset.sum_congr rfl fun i _ => ?_
    rw [hl, hx, ← EReal.coe_sub, Ideal.exp_coe, ← EReal.coe_mul, mul_right_comm, e]
  have h2 : (∑ i, o i * Ideal.exp (x i - (M : EReal))) = ((Real.exp (-M) : ℝ) : EReal) * ∑ i, n i := by
    rw [mul_sum _ (Real.exp_pos _).le]
    refine Finset.sum_congr rfl fun i _ => ?_
    rw [ho, hx, ← EReal.coe_sub, Ideal.exp_coe, mul_right_comm, ← EReal.coe_mul, e]
  rw [hM, h1, h2, Ideal.div_coe (mul_pos (Real.exp_pos _) ha).ne', mul_right_comm, ← EReal.coe_mul]
  congr 2
  have := (Real.exp_pos (-M)).ne'
  field_simp

/-! ## Pages, block by block -/

/-- Token `x` of block `k`: its page. -/
def pageOf (k : Fin 16) (x : Fin 1024) : Fin 1024 := ⟨k.val * 64 + x.val / 16, by have := k.isLt; have := x.isLt; omega⟩

/-- Token `x` of a block: its slot. -/
def slotOf (x : Fin 1024) : Fin 16 := ⟨x.val % 16, Nat.mod_lt _ (by decide)⟩

theorem sum_blocks {M : Type*} [AddCommMonoid M] (f : Fin 1024 → Fin 16 → M) :
    (∑ k, ∑ x, f (pageOf k x) (slotOf x)) = ∑ p, ∑ t, f p t := by
  rw [Fin.sum_univ_tiles 16 64 (by decide) fun p => ∑ t, f p t]
  refine Finset.sum_congr rfl fun k _ => ?_
  rw [Fin.sum_univ_tiles 64 16 (by decide)]
  refine Finset.sum_congr rfl fun i _ => Finset.sum_congr rfl fun t _ => ?_
  congr 1
  · congr 1
    apply Fin.ext; show k.val * 64 + (i.val * 16 + t.val) / 16 = k.val * 64 + i.val
    have := t.isLt; omega
  · apply Fin.ext; show (i.val * 16 + t.val) % 16 = t.val
    have := t.isLt; omega

end Cert.Attend
-- ==== Proof.Reference.lean ====
module

public import proofs.«01_k».proof.Proof.Softmax
public import proofs.«01_k».proof.Proof.Gen.ReferenceIdeal.Run
public import Idealize.ShloMosaic.Lib.Tactic.CleanTypes

@[expose] public section

/-! # What the reference computes -/

set_option maxRecDepth 16384

noncomputable section

namespace Cert.ReferenceIdeal.Value

open Idealize.ShloMosaic Idealize.ShloMosaic.TcCoe
open Cert.ReferenceIdeal Cert.ReferenceIdeal.Gen

/-! ## Reading a gather of pages -/

theorem gather_at {α : Type} (x : S1024x16x8x128.Idx → α) (idx : IVec S8x512x1 32) (b : Fin 8) (j : Fin 512) (t : Fin 16)
    (h : Fin 8) (d : Fin 128) :
    Host.gather gather_S1024x16x8x128_S8x512x1_S8x512x16x8x128_234_0_n_n_0_2_1168128 x idx (ix5 b j t h d) = x (ix4 ⟨min (idx (ix3 b j 0)).toInt.toNat 1023, by omega⟩ t h d) := by
  unfold Host.gather
  congr 1
  funext a
  refine Fin.ext ?_
  show GatherDims.start gather_S1024x16x8x128_S8x512x1_S8x512x16x8x128_234_0_n_n_0_2_1168128 (ix5 b j t h d) idx a + GatherDims.batchCoord gather_S1024x16x8x128_S8x512x1_S8x512x16x8x128_234_0_n_n_0_2_1168128 (ix5 b j t h d) a
    + GatherDims.offCoord gather_S1024x16x8x128_S8x512x1_S8x512x16x8x128_234_0_n_n_0_2_1168128 (ix5 b j t h d) a = _
  rw [GatherDims.batchCoord_eq_zero _ _ _ (by intro hh; cases hh)]
  have hs : ∀ a : Fin 4, a ≠ 0 → GatherDims.start gather_S1024x16x8x128_S8x512x1_S8x512x16x8x128_234_0_n_n_0_2_1168128 (ix5 b j t h d) idx a = 0 := fun a ha => by
    unfold GatherDims.start
    exact dif_neg (fun hh => ha (List.mem_singleton.mp hh))
  match a with
  | ⟨0, _⟩ =>
    rw [GatherDims.offCoord_eq_zero _ _ _ (fun hh => ((GatherDims.mem_sKept _ _).mp hh).1 (List.mem_singleton.mpr rfl))]
    unfold GatherDims.start
    rw [dif_pos (show (⟨0, by decide⟩ : Fin 4) ∈ (gather_S1024x16x8x128_S8x512x1_S8x512x16x8x128_234_0_n_n_0_2_1168128).startIndexMap from List.mem_singleton.mpr rfl)]
    have hsi : GatherDims.siIdx gather_S1024x16x8x128_S8x512x1_S8x512x16x8x128_234_0_n_n_0_2_1168128 (ix5 b j t h d) ⟨List.idxOf (0 : Fin 4) (gather_S1024x16x8x128_S8x512x1_S8x512x16x8x128_234_0_n_n_0_2_1168128).startIndexMap,
        List.idxOf_lt_length_iff.2 (List.mem_singleton.mpr rfl)⟩ = ix3 b j 0 := by
      funext c; refine Fin.ext ?_
      match c with
      | ⟨0, _⟩ => rfl
      | ⟨1, _⟩ => rfl
      | ⟨2, _⟩ => rfl
    simp only [Nat.add_zero]
    exact congrArg (fun z => min (idx z).toInt.toNat 1023) hsi
  | ⟨1, _⟩ => rw [hs _ (fun hh => absurd (congrArg Fin.val hh) (by simp))]; simp only [Nat.zero_add]; rfl
  | ⟨2, _⟩ => rw [hs _ (fun hh => absurd (congrArg Fin.val hh) (by simp))]; simp only [Nat.zero_add]; rfl
  | ⟨3, _⟩ => rw [hs _ (fun hh => absurd (congrArg Fin.val hh) (by simp))]; simp only [Nat.zero_add]; rfl

/-! ## Reading a reduction over positions and slots -/

/-- The entries that reduce to row `(b, h)`: one for each position and slot. -/
theorem fiber_at (b h : Fin 8) (u : Fin 1) (i : S8x8x1x512x16.Idx) :
    Shape.ReducesTo.drop reducesTo_S8x8x1x512x16_S8x8x1_d3_4 i = ix3 b h u ↔ ∃ k : Fin 512 × Fin 16, (ix5 b h u k.1 k.2 : S8x8x1x512x16.Idx) = i := by
  constructor
  · intro e
    refine ⟨(i 3, i 4), ?_⟩
    funext a; apply Fin.ext
    match a with
    | ⟨0, _⟩ => exact (congrArg Fin.val (congrFun e ⟨0, by decide⟩)).symm
    | ⟨1, _⟩ => exact (congrArg Fin.val (congrFun e ⟨1, by decide⟩)).symm
    | ⟨2, _⟩ => exact (congrArg Fin.val (congrFun e ⟨2, by decide⟩)).symm
    | ⟨3, _⟩ => rfl
    | ⟨4, _⟩ => rfl
  · rintro ⟨k, rfl⟩
    funext c; apply Fin.ext
    match c with
    | ⟨0, _⟩ => rfl
    | ⟨1, _⟩ => rfl
    | ⟨2, _⟩ => rfl

theorem fiber_inj (b h : Fin 8) (u : Fin 1) :
    Function.Injective fun k : Fin 512 × Fin 16 => (ix5 b h u k.1 k.2 : S8x8x1x512x16.Idx) :=
  fun _ _ e => Prod.ext (congrFun e 3) (congrFun e 4)

theorem sum_at (x : S8x8x1x512x16.Idx → EReal) (init : EReal) (b h : Fin 8) (u : Fin 1) :
    Ideal.hostReduceAdd reducesTo_S8x8x1x512x16_S8x8x1_d3_4 x init (ix3 b h u) = init + ∑ j : Fin 512, ∑ t : Fin 16, x (ix5 b h u j t) := by
  unfold Ideal.hostReduceAdd
  congr 1
  refine (Finset.sum_filter_eq_sum_of_fiber _ _ (fiber_inj b h u) (fiber_at b h u) x).trans ?_
  simp only [Fintype.sum_prod_type]

theorem max_at (x : S8x8x1x512x16.Idx → EReal) (init : EReal) (b h : Fin 8) (u : Fin 1) :
    Finset.fold max init x {i | Shape.ReducesTo.drop reducesTo_S8x8x1x512x16_S8x8x1_d3_4 i = ix3 b h u}
      = Finset.univ.fold max init fun k : Fin 512 × Fin 16 => x (ix5 b h u k.1 k.2) :=
  Finset.fold_filter_eq_fold_of_fiber max _ _ (fiber_inj b h u) (fiber_at b h u) init x

/-! ## The result at an index -/

/-- The page a position names: the reference wraps a negative index once and clamps the result. -/
def page (bt : IVec S8x512 32) (b : Fin 8) (j : Fin 512) : Fin 1024 :=
  ⟨min (Scalar.select (IntOp.cmpi CmpIPredicate.slt (bt (ix2 b j)) 0#32) (IntOp.addi (bt (ix2 b j)) 1024#32) (bt (ix2 b j))).toInt.toNat 1023, by omega⟩

/-- The masked score of a token of row `(b, h)`. -/
def score (Q : FVec Ideal S8x1x8x128 .f32) (K : FVec Ideal S1024x16x8x128 .f32) (bt : IVec S8x512 32) (ln : IVec S8 32)
    (b h : Fin 8) (j : Fin 512) (t : Fin 16) : EReal :=
  Scalar.select (IntOp.cmpi CmpIPredicate.slt (BitVec.ofNat 32 j.val) (ln (ix1 b)))
    (Ideal.div (∑ e : Fin 128, (Q (ix4 b 0 h e) : EReal) * K (ix4 (page bt b j) t h e)) (Ideal.sqrt (Ideal.ofBits FTy.f32 1124073472#32)))
    (Ideal.ofBits FTy.f32 4286578688#32)

/-- The largest masked score of row `(b, h)`. -/
def top (Q : FVec Ideal S8x1x8x128 .f32) (K : FVec Ideal S1024x16x8x128 .f32) (bt : IVec S8x512 32) (ln : IVec S8 32)
    (b h : Fin 8) : EReal :=
  Finset.univ.fold max (Ideal.ofBits FTy.f32 4286578688#32) fun k : Fin 512 × Fin 16 => score Q K bt ln b h k.1 k.2

set_option maxHeartbeats 4000000 in
/-- The result of the reference at an index. -/
theorem out_at (m : (ℓ : Loc nD τ sig) → Buf (Elt Ideal) ℓ) (b h : Fin 8) (d : Fin 128)
    (Q : FVec Ideal S8x1x8x128 .f32) (K V : FVec Ideal S1024x16x8x128 .f32) (bt : IVec S8x512 32) (ln : IVec S8 32)
    (hQ : m (((0 : Dev nD).tc : Thread nD τ).loc main_arg0) = Q) (hK : m (((0 : Dev nD).tc : Thread nD τ).loc main_arg1) = K)
    (hV : m (((0 : Dev nD).tc : Thread nD τ).loc main_arg2) = V) (hbt : m (((0 : Dev nD).tc : Thread nD τ).loc main_arg3) = bt)
    (hln : m (((0 : Dev nD).tc : Thread nD τ).loc main_arg4) = ln) :
    (show EReal from (res_main_v36 m 0 : FVec Ideal S8x1x8x128 .f32) (ix4 b 0 h d))
      = ∑ j : Fin 512, ∑ t : Fin 16, V (ix4 (page bt b j) t h d)
        * Ideal.div (Ideal.exp (score Q K bt ln b h j t - top Q K bt ln b h))
          (∑ j : Fin 512, ∑ t : Fin 16, Ideal.exp (score Q K bt ln b h j t - top Q K bt ln b h)) := by
  unfold res_main_v36
  rw [hQ, hK, hV, hbt, hln]
  clean_types
  pointwise [gather_at, sum_at, max_at]
  rfl

end Cert.ReferenceIdeal.Value
-- ==== Proof.Plain.lean ====
module

public import proofs.«01_k».proof.Proof.Reference

@[expose] public section

/-! # The reference gives the attended value -/

noncomputable section

namespace Cert.Attend

open Idealize.ShloMosaic

theorem ofBits_128 : Ideal.ofBits .f32 1124073472#32 = ((128 : ℝ) : EReal) := by
  simp [Ideal.ofBits, Ideal.ieee, -EReal.coe_mul]; norm_num

theorem ofBits_bot : Ideal.ofBits .f32 4286578688#32 = ⊥ := by
  simp [Ideal.ofBits, Ideal.ieee]

theorem sqrt_128 : Ideal.sqrt ((128 : ℝ) : EReal) = ((Real.sqrt 128 : ℝ) : EReal) := by
  rw [Ideal.sqrt_coe, if_neg (by norm_num)]

/-- Position `j` is below the row's length `n`. -/
def Ok (n : BitVec 32) (j : Fin 512) : Prop := IntOp.cmpi CmpIPredicate.slt (BitVec.ofNat 32 j.val) n = 1#1

instance (n : BitVec 32) : DecidablePred (Ok n) := fun _ => inferInstanceAs (Decidable (_ = _))

/-- The score of a token from real queries and keys. -/
def scoreR (q : Fin 128 → ℝ) (k : Fin 1024 → Fin 16 → Fin 128 → ℝ) (p : Fin 1024) (t : Fin 16) : ℝ :=
  (∑ e, q e * k p t e) * (Real.sqrt 128)⁻¹

theorem sum_real {n : ℕ} (f g : Fin n → EReal) (q k : Fin n → ℝ) (hf : ∀ e, f e = q e) (hg : ∀ e, g e = k e) :
    ∑ e, f e * g e = ((∑ e, q e * k e : ℝ) : EReal) := by
  rw [coe_sum]
  exact Finset.sum_congr rfl fun e _ => by rw [hf, hg, EReal.coe_mul]

section
variable (Q : FVec Ideal ⟨4, ![8, 1, 8, 128]⟩ .f32) (K V : FVec Ideal ⟨4, ![1024, 16, 8, 128]⟩ .f32) (bt : IVec ⟨2, ![8, 512]⟩ 32) (ln : IVec ⟨1, ![8]⟩ 32)
  (b h : Fin 8) (q : Fin 128 → ℝ) (k : Fin 1024 → Fin 16 → Fin 128 → ℝ)
  (hQ : ∀ e, (Q (ix4 b 0 h e) : EReal) = q e) (hK : ∀ p t e, (K (ix4 p t h e) : EReal) = k p t e)
  (hJ : ∃ j, Ok (ln (ix1 b)) j)

include hQ hK in
theorem score_eq (j : Fin 512) (t : Fin 16) : ReferenceIdeal.Value.score Q K bt ln b h j t
    = if Ok (ln (ix1 b)) j then ((scoreR q k (ReferenceIdeal.Value.page bt b j) t : ℝ) : EReal) else ⊥ := by
  unfold ReferenceIdeal.Value.score
  rw [ofBits_128, ofBits_bot, sqrt_128, sum_real _ _ _ _ hQ (hK _ t), Ideal.div_coe (by positivity), ← EReal.coe_mul, one_div]
  rfl

include hQ hK hJ in
theorem top_real : ∃ M : ℝ, ReferenceIdeal.Value.top Q K bt ln b h = M := by
  unfold ReferenceIdeal.Value.top
  rw [ofBits_bot]
  obtain ⟨j, hj⟩ := hJ
  refine fold_real _ _ (fun i _ => ?_) ⟨(j, 0), Finset.mem_univ _, ?_⟩
  · rw [score_eq Q K bt ln b h q k hQ hK]; split
    · exact EReal.coe_ne_top _
    · exact bot_ne_top
  · rw [score_eq Q K bt ln b h q k hQ hK, if_pos hj]; exact EReal.coe_ne_bot _

include hQ hK hJ in
theorem plain_eq (d : Fin 128) : (∑ j : Fin 512, ∑ t : Fin 16, (V (ix4 (ReferenceIdeal.Value.page bt b j) t h d) : EReal)
        * Ideal.div (Ideal.exp (ReferenceIdeal.Value.score Q K bt ln b h j t - ReferenceIdeal.Value.top Q K bt ln b h))
          (∑ j : Fin 512, ∑ t : Fin 16, Ideal.exp (ReferenceIdeal.Value.score Q K bt ln b h j t - ReferenceIdeal.Value.top Q K bt ln b h)))
      = answer (Ok (ln (ix1 b))) (ReferenceIdeal.Value.page bt b) (scoreR q k) (fun p t => V (ix4 p t h d)) := by
  obtain ⟨M, hM⟩ := top_real Q K bt ln b h q k hQ hK hJ
  have e : ∀ j t, Ideal.exp (ReferenceIdeal.Value.score Q K bt ln b h j t - ReferenceIdeal.Value.top Q K bt ln b h)
      = if Ok (ln (ix1 b)) j then ((Real.exp (scoreR q k (ReferenceIdeal.Value.page bt b j) t - M) : ℝ) : EReal) else 0 := fun j t => by
    rw [score_eq Q K bt ln b h q k hQ hK, hM]
    split
    · rw [← EReal.coe_sub, Ideal.exp_coe]
    · rw [EReal.bot_sub, Ideal.exp_bot]
  simp only [e]
  exact softmax_eq _ _ _ (fun p t => V (ix4 p t h d)) hJ M
end

end Cert.Attend
-- ==== Proof.Reads.lean ====
module

public import proofs.«01_k».proof.Proof.Plain

@[expose] public section

/-! # What the kernel's vector values are, entry by entry -/

set_option maxRecDepth 16384

noncomputable section

namespace Cert.KernelIdeal.Value

open Idealize.ShloMosaic
open Cert.KernelIdeal Cert.KernelIdeal.Gen
open Cert.Attend (ofBits_bot Ok count pageOf coe_sum)

/-- The row of batch entry `b` and head `h`. -/
abbrev row (b h : Fin 8) : Fin 64 := ⟨b.val * 8 + h.val, by have := b.isLt; have := h.isLt; omega⟩

theorem row_div (b h : Fin 8) (p) : (⟨(b.val * 8 + h.val) / 8, p⟩ : Fin 8) = b := Fin.ext (by have := h.isLt; show (b.val * 8 + h.val) / 8 = b.val; omega)
theorem row_mod (b h : Fin 8) (p) : (⟨(b.val * 8 + h.val) % 8, p⟩ : Fin 8) = h := Fin.ext (by have := h.isLt; show (b.val * 8 + h.val) % 8 = h.val; omega)

/-- The position of a page in its block, for a token of the block. -/
abbrev lo (x : Fin 1024) : Fin 64 := ⟨x.val / 16, by have := x.isLt; omega⟩

/-! ## Bits as numbers -/

/-- A one-bit word widened and converted is one or zero. -/
theorem bit_at (c : BitVec 1) : (FloatOps.sitofp (F := Ideal) FTy.f32 (BitVec.setWidth 32 c) : EReal) = if c = 1#1 then 1 else 0 := by
  have h : c = 0#1 ∨ c = 1#1 := by
    have := c.isLt
    rcases (show c.toNat = 0 ∨ c.toNat = 1 by omega) with e | e
    · exact Or.inl (BitVec.eq_of_toNat_eq e)
    · exact Or.inr (BitVec.eq_of_toNat_eq e)
  rcases h with rfl | rfl
  · rw [if_neg (by decide)]
    show (((BitVec.setWidth 32 0#1).toInt : ℝ) : EReal) = 0
    rw [show (BitVec.setWidth 32 0#1).toInt = 0 from by decide]; simp
  · rw [if_pos rfl]
    show (((BitVec.setWidth 32 1#1).toInt : ℝ) : EReal) = 1
    rw [show (BitVec.setWidth 32 1#1).toInt = 1 from by decide]; simp

theorem eq_bit {w : ℕ} (a b : BitVec w) : IntOp.cmpi CmpIPredicate.eq a b = 1#1 ↔ a = b := by
  show BitVec.ofBool (a == b) = 1#1 ↔ a = b
  by_cases h : a = b
  · simp [h]
  · rw [beq_eq_false_iff_ne.2 h]; exact ⟨fun e => absurd e (by decide), fun e => absurd e h⟩

theorem same_at {w : ℕ} (a b : BitVec w) : (FloatOps.sitofp (F := Ideal) FTy.f32
    (BitVec.setWidth 32 (IntOp.cmpi CmpIPredicate.eq a b)) : EReal) = if a = b then 1 else 0 := by
  rw [bit_at]
  exact if_congr (eq_bit a b) rfl rfl

theorem eye_at (g h : Fin 8) : (FloatOps.sitofp (F := Ideal) FTy.f32
    (BitVec.setWidth 32 (IntOp.cmpi CmpIPredicate.eq (BitVec.ofNat 32 g.val) (BitVec.ofNat 32 h.val))) : EReal) = if h = g then 1 else 0 := by
  rw [same_at]
  refine if_congr ⟨fun e => ?_, fun e => by rw [e]⟩ rfl rfl
  have e' := congrArg BitVec.toNat e
  rw [BitVec.toNat_ofNat, BitVec.toNat_ofNat] at e'
  have := g.isLt; have := h.isLt
  exact Fin.ext (by omega)

/-! ## The multiplicities -/

theorem miss : ∀ k : Fin 16, IntOp.shrsi ArithUnit.vector 4294967295#32 6#32 ≠ BitVec.ofNat 32 k.val := by decide

theorem hit (n : BitVec 32) (hn : n.toNat < 1024) (k : Fin 16) (l : Fin 64) :
    (IntOp.andi n 63#32 = BitVec.ofNat 32 l.val ∧ IntOp.shrsi ArithUnit.vector n 6#32 = BitVec.ofNat 32 k.val) ↔ n.toNat = k.val * 64 + l.val := by
  have hk := k.isLt
  have hl := l.isLt
  have e1 : (IntOp.andi n 63#32).toNat = n.toNat % 64 := by
    show (n &&& 63#32).toNat = _
    rw [BitVec.toNat_and]
    exact Nat.and_two_pow_sub_one_eq_mod n.toNat 6
  have hm : n.msb = false := by rw [BitVec.msb_eq_false_iff_two_mul_lt]; omega
  have e2 : (IntOp.shrsi ArithUnit.vector n 6#32).toNat = n.toNat / 64 := by
    unfold IntOp.shrsi
    rw [if_pos (by decide)]
    show (n.sshiftRight 6).toNat = _
    rw [BitVec.sshiftRight_eq_of_msb_false hm, BitVec.toNat_ushiftRight, Nat.shiftRight_eq_div_pow]
  constructor
  · rintro ⟨h1, h2⟩
    have h1 := congrArg BitVec.toNat h1
    have h2 := congrArg BitVec.toNat h2
    rw [e1, BitVec.toNat_ofNat] at h1
    rw [e2, BitVec.toNat_ofNat] at h2
    omega
  · intro h
    constructor
    · apply BitVec.eq_of_toNat_eq; rw [e1, BitVec.toNat_ofNat]; omega
    · apply BitVec.eq_of_toNat_eq; rw [e2, BitVec.toNat_ofNat]; omega

/-- The weight of a token is how often its row attends to the token's page. -/
theorem w_at (y r : BitVec 32) (k : Fin 16) (hk : Scalar.addi (Scalar.muli y 8#32) r = BitVec.ofNat 32 k.val)
    (ln : Vec Ideal S8x1 .i32) (bt : Vec Ideal S8x512 .i32) (b h : Fin 8) (x : Fin 1024) (n : BitVec 32) (hn : ln (ix2 b 0) = n)
    (pg : Fin 512 → Fin 1024) (hpg : ∀ j, Ok n j → (pg j).val = (bt (ix2 b j) : BitVec 32).toNat) :
    (show EReal from k0_pay1 (F := Ideal) y r ln bt (ix2 (row b h) x)) = ((count (Ok n) pg (pageOf k x) : ℝ) : EReal) := by
  pointwise [k0_pay1, row_div, row_mod, hk, hn]
  unfold Attend.count
  rw [coe_sum]
  refine Finset.sum_congr rfl fun j _ => ?_
  rw [same_at, same_at]
  by_cases hj : Ok n j
  · have hs : Scalar.select (IntOp.cmpi CmpIPredicate.slt (BitVec.ofNat 32 j.val) n) (bt (ix2 b j)) 4294967295#32 = bt (ix2 b j) := if_pos hj
    rw [hs]
    have ht := hit (bt (ix2 b j)) (by rw [← hpg j hj]; exact (pg j).isLt) k (lo x)
    have hp : pg j = pageOf k x ↔ (bt (ix2 b j) : BitVec 32).toNat = k.val * 64 + (lo x).val := by
      rw [← hpg j hj]; exact Fin.ext_iff
    by_cases hh : (bt (ix2 b j) : BitVec 32).toNat = k.val * 64 + (lo x).val
    · rw [if_pos (ht.2 hh).1, if_pos (ht.2 hh).2, if_pos ⟨hj, hp.2 hh⟩, one_mul, EReal.coe_one]
    · rw [if_neg (fun e : Ok n j ∧ _ => hh (hp.1 e.2)), EReal.coe_zero]
      by_cases h1 : IntOp.andi (bt (ix2 b j)) 63#32 = BitVec.ofNat 32 (lo x).val
      · rw [if_neg (c := IntOp.shrsi ArithUnit.vector (bt (ix2 b j)) 6#32 = BitVec.ofNat 32 k.val) (fun h2 => hh (ht.1 ⟨h1, h2⟩)), mul_zero]
      · rw [if_neg h1, zero_mul]
  · have hs : Scalar.select (IntOp.cmpi CmpIPredicate.slt (BitVec.ofNat 32 j.val) n) (bt (ix2 b j)) 4294967295#32 = 4294967295#32 := if_neg hj
    rw [hs, if_neg (c := IntOp.shrsi ArithUnit.vector 4294967295#32 6#32 = BitVec.ofNat 32 k.val) (miss k), mul_zero, if_neg (fun e => hj e.1), EReal.coe_zero]

/-! ## The partial of a device -/

/-- A sum over heads that keeps one head. -/
theorem pick (f : Fin 8 → EReal) (h : Fin 8) : (∑ g, f g * (if g = h then (1 : EReal) else 0)) = f h := by
  rw [Finset.sum_eq_single h (fun g _ hg => by rw [if_neg hg, mul_zero]) (fun hh => absurd (Finset.mem_univ _) hh), if_pos rfl, mul_one]

theorem eye_sum (f : Fin 8 → Fin 128 → EReal) (h : Fin 8) :
    (∑ x : Fin 1024, f ⟨x.val / 128, by have := x.isLt; omega⟩ ⟨x.val % 128, by omega⟩
      * (if (⟨x.val / 128, by have := x.isLt; omega⟩ : Fin 8) = h then (1 : EReal) else 0)) = ∑ e, f h e := by
  rw [Fin.sum_univ_tiles 8 128 (by decide), Finset.sum_comm]
  refine Finset.sum_congr rfl fun e _ => ?_
  refine Eq.trans (Finset.sum_congr rfl fun g _ => ?_) (pick (fun g => f g e) h)
  have he := e.isLt
  have h1 : (g.val * 128 + e.val) / 128 = g.val := by omega
  have h2 : (g.val * 128 + e.val) % 128 = e.val := by omega
  simp only [h1, h2]

theorem s_at (q : Vec Ideal S8x1x8x128 .f32) (kk : Vec Ideal S64x16x8x128 .f32) (b h : Fin 8) (x : Fin 1024) :
    (show EReal from k0_pay4 (F := Ideal) k0_pay2 (k0_pay3 q) kk (ix2 (row b h) x))
      = (∑ e : Fin 128, (q (ix4 b 0 h e) : EReal) * kk (ix4 (lo x) (Attend.slotOf x) h e)) * (((Real.sqrt 128)⁻¹ : ℝ) : EReal) := by
  pointwise [k0_pay4, k0_pay2, k0_pay3, row_div, row_mod]
  rw [IdealRules.named_const.ideal_named_scalar _ _ _ _ rfl]
  refine congrArg (fun z : EReal => z * (((Real.sqrt 128)⁻¹ : ℝ) : EReal)) ?_
  refine Eq.trans (Finset.sum_congr rfl fun x' _ => ?_)
    (eye_sum (fun g e => (q (ix4 b 0 h e) : EReal) * kk (ix4 (lo x) (Attend.slotOf x) g e)) h)
  refine Eq.trans (congrArg (fun z : EReal => _ * z * _) (eye_at h ⟨x'.val / 128, by have := x'.isLt; omega⟩)) ?_
  exact mul_right_comm _ _ _

theorem m_at (e : FVec Ideal S1x8x8x1 .f32) (q : FVec Ideal S8x8x8x128 .f32) (kk : Vec Ideal S64x16x8x128 .f32) (b h : Fin 8) :
    (show EReal from k0_pay8 (F := Ideal) e q kk (ix2 b h)) = Finset.univ.fold max ⊥ fun x => (show EReal from k0_pay4 (F := Ideal) e q kk (ix2 (row b h) x)) := by
  pointwise [k0_pay8, k0_pay5, ofBits_bot]

theorem l_at (w : FVec Ideal S64x1024 .f32) (e : FVec Ideal S1x8x8x1 .f32) (q : FVec Ideal S8x8x8x128 .f32) (kk : Vec Ideal S64x16x8x128 .f32) (b h : Fin 8) :
    (show EReal from k0_pay9 (F := Ideal) w e q kk (ix2 b h))
      = ∑ x, Ideal.exp ((show EReal from k0_pay4 (F := Ideal) e q kk (ix2 (row b h) x)) - Finset.univ.fold max ⊥ fun x => (show EReal from k0_pay4 (F := Ideal) e q kk (ix2 (row b h) x)))
        * w (ix2 (row b h) x) := by
  pointwise [k0_pay9, k0_pay6, k0_pay5, ofBits_bot]

theorem o_at (w : FVec Ideal S64x1024 .f32) (q : FVec Ideal S8x8x8x128 .f32) (kk vv : Vec Ideal S64x16x8x128 .f32) (b h : Fin 8) (d : Fin 128) :
    (show EReal from k0_pay7 (F := Ideal) w k0_pay2 q kk vv (ix3 b h d))
      = ∑ x, Ideal.exp ((show EReal from k0_pay4 (F := Ideal) k0_pay2 q kk (ix2 (row b h) x)) - Finset.univ.fold max ⊥ fun x => (show EReal from k0_pay4 (F := Ideal) k0_pay2 q kk (ix2 (row b h) x)))
        * w (ix2 (row b h) x) * vv (ix4 (lo x) (Attend.slotOf x) h d) := by
  have e2 : ∀ g : Fin 8, (show EReal from k0_pay2 (F := Ideal) (ix4 0 h g 0)) = if g = h then 1 else 0 := fun g => by
    pointwise [k0_pay2]
    exact eye_at h g
  generalize k0_pay2 (F := Ideal) = e at e2 ⊢
  pointwise [k0_pay7, k0_pay6, k0_pay5, ofBits_bot]
  refine Eq.trans (Finset.sum_congr rfl fun g _ => congrArg _ (e2 g)) ?_
  exact pick _ h

theorem cat_at (w : FVec Ideal S64x1024 .f32) (e : FVec Ideal S1x8x8x1 .f32) (q : FVec Ideal S8x8x8x128 .f32) (kk vv : Vec Ideal S64x16x8x128 .f32) (b h : Fin 8) (d : Fin 130) :
    (show EReal from k0_pay11 (F := Ideal) (k0_pay10 w e q kk vv) (ix3 b h d))
      = if hd : d.val < 128 then k0_pay7 w e q kk vv (ix3 b h ⟨d.val, hd⟩)
        else if _ : d.val - 128 < 1 then k0_pay8 e q kk (ix2 b h) else k0_pay9 w e q kk (ix2 b h) := by
  pointwise [k0_pay11, k0_pay10]

/-! ## Merging -/

theorem pm_at (a : FVec Ideal S8x8 .f32) (a' : Vec Ideal S8x8x1 .f32) (b h : Fin 8) :
    (show EReal from k0_pay18 (F := Ideal) a a' (ix3 b h 0)) = max (a (ix2 b h) : EReal) (a' (ix3 b h 0)) := by
  pointwise [k0_pay18, k0_pay13, k0_pay12]

theorem pl_at (a l : FVec Ideal S8x8 .f32) (a' l' : Vec Ideal S8x8x1 .f32) (b h : Fin 8) :
    (show EReal from k0_pay16 (F := Ideal) a l a' l' (ix2 b h))
      = (l (ix2 b h) : EReal) * Ideal.exp ((a (ix2 b h) : EReal) - max (a (ix2 b h) : EReal) (a' (ix3 b h 0)))
        + (l' (ix3 b h 0) : EReal) * Ideal.exp ((a' (ix3 b h 0) : EReal) - max (a (ix2 b h) : EReal) (a' (ix3 b h 0))) := by
  pointwise [k0_pay16, k0_pay15, k0_pay14, k0_pay13, k0_pay12]

theorem po_at (o : FVec Ideal S8x8x128 .f32) (a : FVec Ideal S8x8 .f32) (a' : Vec Ideal S8x8x1 .f32) (o' : Vec Ideal S8x8x128 .f32) (b h : Fin 8) (d : Fin 128) :
    (show EReal from k0_pay17 (F := Ideal) o a a' o' (ix3 b h d))
      = (o (ix3 b h d) : EReal) * Ideal.exp ((a (ix2 b h) : EReal) - max (a (ix2 b h) : EReal) (a' (ix3 b h 0)))
        + (o' (ix3 b h d) : EReal) * Ideal.exp ((a' (ix3 b h 0) : EReal) - max (a (ix2 b h) : EReal) (a' (ix3 b h 0))) := by
  pointwise [k0_pay17, k0_pay15, k0_pay14, k0_pay13, k0_pay12]

theorem mg_at (a : FVec Ideal S8x8 .f32) (o : FVec Ideal S8x8x128 .f32) (x : FVec Ideal S8x8x1 .f32) (b h : Fin 8) (d : Fin 130) :
    (show EReal from k0_pay19 (F := Ideal) a o x (ix3 b h d))
      = if hd : d.val < 128 then o (ix3 b h ⟨d.val, hd⟩) else if hd' : d.val - 128 < 1 then x (ix3 b h ⟨d.val - 128, hd'⟩) else a (ix2 b h) := by
  pointwise [k0_pay19]

/-! ## The result -/

/-- A column of a partial that holds a weighted sum. -/
abbrev col (d : Fin 128) : Fin 130 := ⟨d.val, by have := d.isLt; omega⟩

theorem out_at (g : FVec Ideal S8x8x8x130 .f32) (b h : Fin 8) (d : Fin 128) :
    (show EReal from k0_pay20 (F := Ideal) g (ix4 b 0 h d))
      = Ideal.div
        (∑ r, (g (ix4 r b h (col d)) : EReal) * Ideal.exp ((g (ix4 r b h 128) : EReal) - Finset.univ.fold max ⊥ fun r => (g (ix4 r b h 128) : EReal)))
        (∑ r, (g (ix4 r b h 129) : EReal) * Ideal.exp ((g (ix4 r b h 128) : EReal) - Finset.univ.fold max ⊥ fun r => (g (ix4 r b h 128) : EReal))) := by
  pointwise [k0_pay20, ofBits_bot]

/-! ## The parts of a partial -/

theorem oPart_at (x : FVec Ideal S8x8x130 .f32) (b h : Fin 8) (d : Fin 128) : Talk.oPart x (ix3 b h d) = x (ix3 b h (col d)) := by
  unfold Talk.oPart
  show x _ = x _
  congr 1
  funext a; apply Fin.ext
  match a with
  | ⟨0, _⟩ => show 0 + 1 * b.val = b.val; omega
  | ⟨1, _⟩ => show 0 + 1 * h.val = h.val; omega
  | ⟨2, _⟩ => show 0 + 1 * d.val = d.val; omega

theorem mPart_at (x : FVec Ideal S8x8x130 .f32) (b h : Fin 8) : Talk.mPart x (ix3 b h 0) = x (ix3 b h 128) := by
  unfold Talk.mPart
  show x _ = x _
  congr 1
  funext a; apply Fin.ext
  match a with
  | ⟨0, _⟩ => show 0 + 1 * b.val = b.val; omega
  | ⟨1, _⟩ => show 0 + 1 * h.val = h.val; omega
  | ⟨2, _⟩ => rfl

theorem lPart_at (x : FVec Ideal S8x8x130 .f32) (b h : Fin 8) : Talk.lPart x (ix3 b h 0) = x (ix3 b h 129) := by
  unfold Talk.lPart
  show x _ = x _
  congr 1
  funext a; apply Fin.ext
  match a with
  | ⟨0, _⟩ => show 0 + 1 * b.val = b.val; omega
  | ⟨1, _⟩ => show 0 + 1 * h.val = h.val; omega
  | ⟨2, _⟩ => rfl

end Cert.KernelIdeal.Value
-- ==== Proof.Inputs.lean ====
module

public import proofs.«01_k».proof.Proof.Reads
public import Idealize.ShloMosaic.Lib.Pipeline.ValueKit.Point
public import Idealize.ShloMosaic.Lib.LayoutAt
public import Idealize.ShloMosaic.Lib.Claim

@[expose] public section

/-! # What a device reads, in terms of the arguments -/

set_option maxRecDepth 16384

noncomputable section

namespace Cert.KernelIdeal.Value

open Idealize.ShloMosaic Idealize.ShloMosaic.TcCoe
open Cert.KernelIdeal Cert.KernelIdeal.Gen Cert.KernelIdeal.Talk
open Idealize.ShloMosaic.SiteBlocks Idealize.ShloMosaic.TalkSites

variable (m : (ℓ : Loc nD τ sig) → Buf (Elt Ideal) ℓ)

/-- The block of pages a device works on. -/
def blk (c : Dev nD) : Fin 16 := ⟨(c.val / 4 % 2) * 8 + (rank c).val, by have := (rank c).isLt; omega⟩

theorem word_blk : ∀ c : Dev nD, Scalar.addi (Scalar.muli (yWord c) 8#32) (rWord c) = BitVec.ofNat 32 (blk c).val := by decide +kernel

theorem off1_eq : ∀ c : Dev nD, k0_off1 c = ![64 * (rank c).val, 0, 0, 0] := by decide +kernel

theorem blk_mate : ∀ (c : Dev nD) (r : Fin 8), (blk (mate c r)).val = (c.val / 4 % 2) * 8 + r.val := by decide +kernel
theorem blk_prt_mate : ∀ (c : Dev nD) (r : Fin 8), (blk (prt (mate c r))).val = (1 - c.val / 4 % 2) * 8 + r.val := by decide +kernel

/-! ## The staged operands -/

theorem read_arg0 (c : Dev nD) (f : Buf (Elt Ideal) ((c : Thread nD τ).loc main_arg0)) : (win0_0.blk t0_0).view.read (Elt Ideal) f = f :=
  Memref.read_access_unit_zero (Elt Ideal) main_arg0
    (show (fun a => (win0_0.index t0_0) a * main_arg0.ty.shape.size a) = fun _ => 0 from
      funext fun a => by fin_cases a <;> decide) (fun a => by fin_cases a <;> decide) f
theorem read_arg3 (c : Dev nD) (f : Buf (Elt Ideal) ((c : Thread nD τ).loc main_arg3)) : (win0_1.blk t0_0).view.read (Elt Ideal) f = f :=
  Memref.read_access_unit_zero (Elt Ideal) main_arg3
    (show (fun a => (win0_1.index t0_0) a * main_arg3.ty.shape.size a) = fun _ => 0 from
      funext fun a => by fin_cases a <;> decide) (fun a => by fin_cases a <;> decide) f
theorem read_v1 (c : Dev nD) (f : Buf (Elt Ideal) ((c : Thread nD τ).loc main_v1)) : (win0_2.blk t0_0).view.read (Elt Ideal) f = f :=
  Memref.read_access_unit_zero (Elt Ideal) main_v1
    (show (fun a => (win0_2.index t0_0) a * main_v1.ty.shape.size a) = fun _ => 0 from
      funext fun a => by fin_cases a <;> decide) (fun a => by fin_cases a <;> decide) f

theorem qC_eq (c : Dev nD) : qC m c = m (c, main_arg0) := by
  show (win0_0.blk t0_0).view.read (Elt Ideal) (V m c main_arg0) = _
  rw [V_main_arg0]
  exact read_arg0 c _

theorem btC_eq (c : Dev nD) : btC m c = m (c, main_arg3) := by
  show (win0_1.blk t0_0).view.read (Elt Ideal) (V m c main_arg3) = _
  rw [V_main_arg3]
  exact read_arg3 c _

theorem lnC_at (c : Dev nD) (b : Fin 8) : (lnC m c (ix2 b 0) : BitVec 32) = (m (c, main_arg4) : Vec Ideal S8 .i32) (ix1 b) := by
  show ((win0_2.blk t0_0).view.read (Elt Ideal) (V m c main_v1) : Vec Ideal S8x1 .i32) (ix2 b 0) = _
  rw [read_v1]
  entry_read
  pointwise

/-! ## The pages -/

/-- A page of a block, in the device's cache. -/
abbrev local' (c : Dev nD) (p : Fin 64) : Fin 512 := ⟨64 * (rank c).val + p.val, by have := (rank c).isLt; have := p.isLt; omega⟩

theorem kC_at (c : Dev nD) (p : Fin 64) (t : Fin 16) (h : Fin 8) (e : Fin 128) :
    kC m c (ix4 p t h e) = (m (c, main_arg1) : Vec Ideal S512x16x8x128 .f32) (ix4 (local' c p) t h e) := by
  unfold kC
  show (m (c, main_arg1)) _ = (m (c, main_arg1)) _
  congr 1
  funext a; apply Fin.ext
  have h1 := off1_eq c
  match a with
  | ⟨0, _⟩ => show k0_off1 c 0 + 1 * p.val = 64 * (rank c).val + p.val; rw [h1]; show 64 * (rank c).val + 1 * p.val = _; omega
  | ⟨1, _⟩ => show k0_off1 c 1 + 1 * t.val = t.val; rw [h1]; show 0 + 1 * t.val = _; omega
  | ⟨2, _⟩ => show k0_off1 c 2 + 1 * h.val = h.val; rw [h1]; show 0 + 1 * h.val = _; omega
  | ⟨3, _⟩ => show k0_off1 c 3 + 1 * e.val = e.val; rw [h1]; show 0 + 1 * e.val = _; omega

theorem vC_at (c : Dev nD) (p : Fin 64) (t : Fin 16) (h : Fin 8) (e : Fin 128) :
    vC m c (ix4 p t h e) = (m (c, main_arg2) : Vec Ideal S512x16x8x128 .f32) (ix4 (local' c p) t h e) := by
  unfold vC
  show (m (c, main_arg2)) _ = (m (c, main_arg2)) _
  congr 1
  funext a; apply Fin.ext
  have h1 := off1_eq c
  match a with
  | ⟨0, _⟩ => show k0_off1 c 0 + 1 * p.val = 64 * (rank c).val + p.val; rw [h1]; show 64 * (rank c).val + 1 * p.val = _; omega
  | ⟨1, _⟩ => show k0_off1 c 1 + 1 * t.val = t.val; rw [h1]; show 0 + 1 * t.val = _; omega
  | ⟨2, _⟩ => show k0_off1 c 2 + 1 * h.val = h.val; rw [h1]; show 0 + 1 * h.val = _; omega
  | ⟨3, _⟩ => show k0_off1 c 3 + 1 * e.val = e.val; rw [h1]; show 0 + 1 * e.val = _; omega

/-- A page of a block, in the whole cache. -/
abbrev global' (k : Fin 16) (p : Fin 64) : Fin 1024 := ⟨k.val * 64 + p.val, by have := k.isLt; have := p.isLt; omega⟩

/-- A device's cache holds the half of the whole cache that its second coordinate names. -/
theorem half_at (c : Dev nD) (X : Vec Ideal ⟨4, ![1024, 16, 8, 128]⟩ .f32) (p : Fin 64) (t : Fin 16) (h : Fin 8) (e : Fin 128) :
    (Layout.blockN ⟨4, ![512, 16, 8, 128]⟩ ⟨4, ![1024, 16, 8, 128]⟩ (Layout.meshBlock [2, 2, 4] ![[1], [], [], []] c) X) (ix4 (local' c p) t h e)
      = X (ix4 (global' (blk c) p) t h e) := by
  rw [Layout.blockN_apply]
  congr 1
  funext a; apply Fin.ext
  have hy : ∀ c : Dev nD, Layout.meshLin [2, 2, 4] c.val [1] = c.val / 4 % 2 := by decide +kernel
  match a with
  | ⟨0, _⟩ =>
    show Layout.meshLin [2, 2, 4] c.val [1] * 512 + (64 * (rank c).val + p.val) = ((c.val / 4 % 2) * 8 + (rank c).val) * 64 + p.val
    rw [hy]; omega
  | ⟨1, _⟩ => show 0 * 16 + t.val = t.val; omega
  | ⟨2, _⟩ => show 0 * 8 + h.val = h.val; omega
  | ⟨3, _⟩ => show 0 * 128 + e.val = e.val; omega

end Cert.KernelIdeal.Value
-- ==== Proof.Value.lean ====
module

public import proofs.«01_k».proof.Proof.Inputs

@[expose] public section

/-! # The kernel gives the attended value -/

set_option maxRecDepth 16384

noncomputable section

namespace Cert.KernelIdeal.Value

open Idealize.ShloMosaic Idealize.ShloMosaic.TcCoe
open Cert.KernelIdeal Cert.KernelIdeal.Gen Cert.KernelIdeal.Talk
open Cert.Attend (Ok count weight total answer pageOf slotOf scoreR Stands)

variable (m : (ℓ : Loc nD τ sig) → Buf (Elt Ideal) ℓ)

/-- What the devices read for one entry of the result: real queries and keys, values, a length and the pages of the
    attended positions. -/
structure Row (b h : Fin 8) (d : Fin 128) (q : Fin 128 → ℝ) (k : Fin 1024 → Fin 16 → Fin 128 → ℝ) (v : Fin 1024 → Fin 16 → EReal)
    (n : BitVec 32) (pg : Fin 512 → Fin 1024) : Prop where
  q_at : ∀ c e, (qC m c (ix4 b 0 h e) : EReal) = q e
  k_at : ∀ c p t e, (kC m c (ix4 p t h e) : EReal) = k (global' (blk c) p) t e
  v_at : ∀ c p t, (vC m c (ix4 p t h d) : EReal) = v (global' (blk c) p) t
  n_at : ∀ c, lnC m c (ix2 b 0) = n
  pg_at : ∀ c j, Ok n j → (pg j).val = (btC m c (ix2 b j) : BitVec 32).toNat

variable {m} {b h : Fin 8} {d : Fin 128} {q : Fin 128 → ℝ} {k : Fin 1024 → Fin 16 → Fin 128 → ℝ} {v : Fin 1024 → Fin 16 → EReal}
  {n : BitVec 32} {pg : Fin 512 → Fin 1024} (R : Row m b h d q k v n pg)

/-- The weights of block `i`, and the weighted values. -/
def mass (q : Fin 128 → ℝ) (k : Fin 1024 → Fin 16 → Fin 128 → ℝ) (n : BitVec 32) (pg : Fin 512 → Fin 1024) (i : Fin 16) : ℝ :=
  ∑ x, weight (Ok n) pg (scoreR q k) (pageOf i x) (slotOf x)
@[inherit_doc mass] def load (q : Fin 128 → ℝ) (k : Fin 1024 → Fin 16 → Fin 128 → ℝ) (v : Fin 1024 → Fin 16 → EReal) (n : BitVec 32)
    (pg : Fin 512 → Fin 1024) (i : Fin 16) : EReal :=
  ∑ x, ((weight (Ok n) pg (scoreR q k) (pageOf i x) (slotOf x) : ℝ) : EReal) * v (pageOf i x) (slotOf x)

include R in
theorem score_at (c : Dev nD) (x : Fin 1024) :
    (show EReal from k0_pay4 (F := Ideal) k0_pay2 (k0_pay3 (qC m c)) (kC m c) (ix2 (row b h) x))
      = ((scoreR q k (pageOf (blk c) x) (slotOf x) : ℝ) : EReal) := by
  rw [s_at, Attend.sum_real _ _ _ _ (R.q_at c) (R.k_at c (lo x) (slotOf x)), ← EReal.coe_mul]
  rfl

include R in
theorem weight_at (c : Dev nD) (x : Fin 1024) :
    (show EReal from wC m c (ix2 (row b h) x)) = ((count (Ok n) pg (pageOf (blk c) x) : ℝ) : EReal) :=
  w_at _ _ (blk c) (word_blk c) _ _ b h x n (R.n_at c) pg (R.pg_at c)

include R in
theorem stands_own (c : Dev nD) :
    Stands (k0_pay8 (F := Ideal) k0_pay2 (k0_pay3 (qC m c)) (kC m c) (ix2 b h))
      (k0_pay9 (F := Ideal) (wC m c) k0_pay2 (k0_pay3 (qC m c)) (kC m c) (ix2 b h))
      (k0_pay7 (F := Ideal) (wC m c) k0_pay2 (k0_pay3 (qC m c)) (kC m c) (vC m c) (ix3 b h d))
      (mass q k n pg (blk c)) (load q k v n pg (blk c)) := by
  exact Attend.stands_eq (m_at (k0_pay2 (F := Ideal)) (k0_pay3 (qC m c)) (kC m c) b h) (l_at (wC m c) (k0_pay2 (F := Ideal)) (k0_pay3 (qC m c)) (kC m c) b h)
    (o_at (wC m c) (k0_pay3 (qC m c)) (kC m c) (vC m c) b h d) rfl rfl
    (Attend.stands_known _ _ _ (fun x => scoreR q k (pageOf (blk c) x) (slotOf x)) (fun x => count (Ok n) pg (pageOf (blk c) x))
      (fun x => Attend.count_nonneg _ _ _) (fun x => v (pageOf (blk c) x) (slotOf x))
      (score_at R c) (weight_at R c) fun x => R.v_at c (lo x) (slotOf x))

include R in
/-- The partial a device sends holds the same three. -/
theorem stands_sent (c : Dev nD) :
    Stands (sC m c (ix3 b h 128)) (sC m c (ix3 b h 129)) (sC m c (ix3 b h (col d))) (mass q k n pg (blk c)) (load q k v n pg (blk c)) := by
  refine Attend.stands_eq ?_ ?_ ?_ rfl rfl (stands_own R c)
  · refine (cat_at _ _ _ _ _ b h 128).trans ?_
    rw [dif_neg (by decide), dif_pos (by decide)]
  · refine (cat_at _ _ _ _ _ b h 129).trans ?_
    rw [dif_neg (by decide), dif_neg (by decide)]
  · refine (cat_at _ _ _ _ _ b h (col d)).trans ?_
    rw [dif_pos d.isLt]

include R in
/-- The merged partial. -/
theorem stands_merged (c : Dev nD) :
    Stands (pC m c (ix3 b h 128)) (pC m c (ix3 b h 129)) (pC m c (ix3 b h (col d)))
      (mass q k n pg (blk c) + mass q k n pg (blk (prt c))) (load q k v n pg (blk c) + load q k v n pg (blk (prt c))) := by
  have hs := stands_sent R (prt c)
  rw [← mPart_at (sC m (prt c)), ← lPart_at (sC m (prt c)), ← oPart_at (sC m (prt c))] at hs
  refine Attend.stands_eq ?_ ?_ ?_ rfl rfl (Attend.stands_merge (stands_own R c) hs)
  · refine (mg_at _ _ _ b h 128).trans ?_
    rw [dif_neg (by decide), dif_pos (by decide)]
    exact pm_at _ _ b h
  · refine (mg_at _ _ _ b h 129).trans ?_
    rw [dif_neg (by decide), dif_neg (by decide)]
    exact pl_at _ _ _ _ b h
  · refine (mg_at _ _ _ b h (col d)).trans ?_
    rw [dif_pos d.isLt]
    exact po_at _ _ _ _ b h d

/-- The devices of a group and their partners work on all blocks. -/
theorem sum_group {M : Type*} [AddCommMonoid M] (f : Fin 16 → M) (c : Dev nD) :
    (∑ r, (f (blk (mate c r)) + f (blk (prt (mate c r))))) = ∑ i, f i := by
  rw [Finset.sum_add_distrib, Fin.sum_univ_two_halves 8 8 (by decide) f]
  have h1 := blk_mate c
  have h2 := blk_prt_mate c
  have hy : c.val / 4 % 2 = 0 ∨ c.val / 4 % 2 = 1 := by omega
  rcases hy with hy | hy
  · rw [hy] at h1 h2
    congr 1
    · exact Finset.sum_congr rfl fun r _ => congrArg f (Fin.ext (by rw [h1]; show 0 * 8 + r.val = r.val; omega))
    · exact Finset.sum_congr rfl fun r _ => congrArg f (Fin.ext (by rw [h2]))
  · rw [hy] at h1 h2
    rw [add_comm]
    congr 1
    · exact Finset.sum_congr rfl fun r _ => congrArg f (Fin.ext (by rw [h2]; show (1 - 1) * 8 + r.val = r.val; omega))
    · exact Finset.sum_congr rfl fun r _ => congrArg f (Fin.ext (by rw [h1]))

include R in
/-- Every device's result is the attended value. -/
theorem out_eq (hJ : ∃ j, Ok n j) (c : Dev nD) :
    (show EReal from outC m c (ix4 b 0 h d)) = answer (Ok n) pg (scoreR q k) v := by
  have hm : (∑ r, (mass q k n pg (blk (mate c r)) + mass q k n pg (blk (prt (mate c r))))) = total (Ok n) pg (scoreR q k) :=
    (sum_group (mass q k n pg) c).trans (Attend.sum_blocks fun p t => weight (Ok n) pg (scoreR q k) p t)
  have hl : (∑ r, (load q k v n pg (blk (mate c r)) + load q k v n pg (blk (prt (mate c r)))))
      = ∑ p, ∑ t, ((weight (Ok n) pg (scoreR q k) p t : ℝ) : EReal) * v p t :=
    (sum_group (load q k v n pg) c).trans (Attend.sum_blocks fun p t => ((weight (Ok n) pg (scoreR q k) p t : ℝ) : EReal) * v p t)
  refine (out_at (gC m c) b h d).trans ?_
  refine (Attend.stands_divide (fun r => pC m (mate c r) (ix3 b h 128)) (fun r => pC m (mate c r) (ix3 b h 129))
    (fun r => pC m (mate c r) (ix3 b h (col d))) _ _ (fun r => stands_merged R (mate c r))
    (by rw [hm]; exact Attend.total_pos _ _ _ hJ)).trans ?_
  rw [hm, hl]
  rfl

end Cert.KernelIdeal.Value
-- ==== Proof.Frames.lean ====
/-
  The runs of the three programs and the one rewrite of the kernel's idealization.

  `Kernel` and `KernelIdeal` have one text, save that the second gives its scale a name. The run of `KernelIdeal` is proved over
  any float values that read named constants (Main.lean); machine words that read a named constant as its pattern are such
  values, and over them `KernelIdeal` is `Kernel`.
-/
module

public import proofs.«01_k».proof.Defs
public import proofs.«01_k».proof.Proof.Value
public import proofs.«01_k».proof.Proof.Gen.Kernel
public import proofs.«01_k».proof.Proof.Gen.ReferenceIdeal.Run
public import Idealize.ShloMosaic.Lib.Quiescent

@[expose] public section

noncomputable section

open Idealize.ShloMosaic Idealize.ShloMosaic.TcCoe Idealize.SL.Sem

namespace Cert.Proof.Frames

/-- Machine words that read a named constant as the pattern printed beside its name. -/
abbrev plainNames : Named Bits := ⟨fun _ _ _ bits => bits⟩

/-- Over these the two body tables agree, label by label. -/
theorem tables_eq : Cert.Kernel.defs₀ (F := Bits) = @Cert.KernelIdeal.defs₀ Bits _ plainNames _ :=
  congrArg Defs.onTc (funext fun l => funext fun a => by
    match l, a with
    | 0, (t, s) => rfl)

theorem defs_eq : Cert.Kernel.defs (F := Bits) = @Cert.KernelIdeal.defs Bits _ plainNames _ :=
  congrArg (Pipeline.defs Cert.Kernel.pcfgs) tables_eq

theorem frame_kernel : Cert.quiescent_Kernel := by
  intro m ρ _
  rw [defs_eq]
  exact (θ_run (@Cert.KernelIdeal.defs Bits _ plainNames _) _ _).mono (fun _ h => ⟨fun c => (h.1 c).1, h.2⟩)
    (@Cert.KernelIdeal.Talk.run_main Bits _ plainNames m ρ)

theorem frame_kernel_ideal : Cert.quiescent_KernelIdeal := fun m ρ _ =>
  (θ_run (Cert.KernelIdeal.defs (F := Ideal)) _ _).mono (fun _ h => ⟨fun c => (h.1 c).1, h.2⟩)
    (Cert.KernelIdeal.Talk.run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The scale's name stands for `(√128)⁻¹`. -/
theorem preserves : Cert.preserves_Kernel_KernelIdeal :=
  IdealRules.named_const.statement Cert.KernelIdeal.κ "inv_sqrt_d" .f32 0x3DB504F3#32 (((Real.sqrt 128)⁻¹ : ℝ) : EReal) rfl

end Cert.Proof.Frames

end
-- ==== Proof.Algebraic.lean ====
/-
  The algebraic claim: under `attendable` every device ends with the reference's result.

  For one entry of the result both programs give the same value, the softmax-weighted mean `Attend.answer` over the pages the
  row attends to: the reference by Plain.lean, each device by Value.lean. What is left is to read the precondition: its four
  parts make the queries and keys real numbers, give every row a first attended position, and keep the page numbers of the
  attended positions within the cache.
-/
module

public import proofs.«01_k».proof.Proof.Frames

@[expose] public section

set_option maxRecDepth 16384

noncomputable section

open Idealize.ShloMosaic Idealize.ShloMosaic.TcCoe Idealize.SL.Sem Idealize.ShloMosaic.WordCmp

namespace Cert.Proof.Algebraic

/-! ## The facts of the two predicates -/

instance facts_kernel : Cert.Pre_attendable_KernelIdeal.Facts :=
  ⟨by decide, by decide, by decide, by decide, by decide, by decide, by decide, by decide⟩

instance facts_reference : Cert.Pre_attendable_ReferenceIdeal.Facts :=
  ⟨by decide, by decide, by decide, by decide, by decide, by decide, by decide, by decide⟩

/-! ## Reading the precondition -/

theorem ofBits_top : Ideal.ofBits .f32 0x7F800000#32 = ⊤ := by
  simp [Ideal.ofBits, Ideal.ieee]

/-- A value whose magnitude is below infinity is a real number. -/
theorem real_of_abs {x : EReal} (h : Ideal.cmp .olt (max x (-x)) ⊤ = 1#1) : ∃ r : ℝ, x = r := by
  have h' : max x (-x) < ⊤ := by
    by_contra hn
    simp [Ideal.cmp, hn] at h
  induction x with
  | bot => simp at h'
  | coe r => exact ⟨r, rfl⟩
  | top => simp at h'

section
variable (Q : FVec Ideal Pre_attendable_KernelIdeal.S8x1x8x128 .f32) (K V : FVec Ideal Pre_attendable_KernelIdeal.S512x16x8x128 .f32)
  (bt : IVec Pre_attendable_KernelIdeal.S8x512 32) (ln : IVec Pre_attendable_KernelIdeal.S8 32)

theorem q_real (h : (Pre_attendable_KernelIdeal.fn (F := Ideal) Q K V bt ln).1 = fun _ => 1#1) (b : Fin 8) (u : Fin 1) (g : Fin 8)
    (e : Fin 128) : ∃ r : ℝ, (Q (ix4 b u g e) : EReal) = r := by
  have := congrFun h (ix4 b u g e)
  refine real_of_abs (Eq.trans ?_ this)
  rw [← ofBits_top]
  rfl

theorem k_real (h : (Pre_attendable_KernelIdeal.fn (F := Ideal) Q K V bt ln).2.1 = fun _ => 1#1) (p : Fin 512) (t : Fin 16) (g : Fin 8)
    (e : Fin 128) : ∃ r : ℝ, (K (ix4 p t g e) : EReal) = r := by
  have := congrFun h (ix4 p t g e)
  refine real_of_abs (Eq.trans ?_ this)
  rw [← ofBits_top]
  rfl

/-- A row's first position is attended. -/
theorem first_ok (h : (Pre_attendable_KernelIdeal.fn (F := Ideal) Q K V bt ln).2.2.1 = fun _ => 1#1) (b : Fin 8) :
    Attend.Ok (ln (ix1 b)) 0 := by
  have h1 : IntOp.cmpi .sge (ln (ix1 b)) 1#32 = 1#1 := congrFun h (ix1 b)
  rw [cmpi_sge_eq, ofBool_decide_eq_one_iff] at h1
  show IntOp.cmpi .slt 0#32 (ln (ix1 b)) = 1#1
  rw [cmpi_slt_eq, ofBool_decide_eq_one_iff]
  have e1 : (1#32 : BitVec 32).toInt = 1 := by decide
  have e0 : (0#32 : BitVec 32).toInt = 0 := by decide
  omega

/-- An attended position's page number lies in the cache, and it is the page the reference reads. -/
theorem page_eq (h : (Pre_attendable_KernelIdeal.fn (F := Ideal) Q K V bt ln).2.2.2 = fun _ => 1#1) (b : Fin 8) (j : Fin 512)
    (hj : Attend.Ok (ln (ix1 b)) j) : (ReferenceIdeal.Value.page bt b j).val = (bt (ix2 b j) : BitVec 32).toNat := by
  have h1 : IntOp.ori (IntOp.andi (IntOp.cmpi .sge (bt (ix2 b j)) 0#32) (IntOp.cmpi .slt (bt (ix2 b j)) 1024#32))
      (~~~(IntOp.cmpi .slt (BitVec.ofNat 32 j.val) (ln (ix1 b)))) = 1#1 := by
    refine Eq.trans ?_ (congrFun h (ix2 b j))
    symm
    show (ori (andi (cmpi .sge bt _) (cmpi .slt bt _)) (noti (cmpi .slt _ _)) : IVec Pre_attendable_KernelIdeal.S8x512 1) (ix2 b j) = _
    pointwise
  rw [show IntOp.cmpi .slt (BitVec.ofNat 32 j.val) (ln (ix1 b)) = 1#1 from hj, cmpi_sge_eq, cmpi_slt_eq, andi_ofBool,
    show (~~~(1#1 : BitVec 1)) = BitVec.ofBool false from by decide, ori_ofBool, ofBool_eq_one_iff, Bool.or_false, Bool.and_eq_true,
    decide_eq_true_iff, decide_eq_true_iff] at h1
  have e0 : (0#32 : BitVec 32).toInt = 0 := by decide
  have e1 : (1024#32 : BitVec 32).toInt = 1024 := by decide
  rw [e0, e1] at h1
  have hn : ¬ IntOp.cmpi CmpIPredicate.slt (bt (ix2 b j)) 0#32 = 1 := by
    rw [cmpi_slt_eq, ofBool_eq_one_iff', decide_eq_true_iff, e0]
    omega
  show min (Scalar.select _ _ _ : BitVec 32).toInt.toNat 1023 = _
  rw [Scalar.select, if_neg hn]
  have := BitVec.toInt_eq_toNat_cond (bt (ix2 b j))
  have := (bt (ix2 b j)).isLt
  split at * <;> omega

end

/-! ## The two results -/

/-- Every block of the cache is some device's. -/
theorem blk_onto : ∀ i : Fin 16, ∃ c : Dev KernelIdeal.nD, KernelIdeal.Value.blk c = i := by decide +kernel

section
variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)
  (Q : FVec Ideal ReferenceIdeal.S8x1x8x128 .f32) (K V : FVec Ideal ReferenceIdeal.S1024x16x8x128 .f32)
  (bt : IVec ReferenceIdeal.S8x512 32) (ln : IVec ReferenceIdeal.S8 32)

/-- The devices hold the queries, the page table and the lengths whole, and the caches by halves. -/
structure Dealt : Prop where
  q : ∀ c : Dev KernelIdeal.nD, m (c, KernelIdeal.main_arg0) = Q
  k : ∀ c : Dev KernelIdeal.nD, m (c, KernelIdeal.main_arg1)
    = Layout.blockN ⟨4, ![512, 16, 8, 128]⟩ ⟨4, ![1024, 16, 8, 128]⟩ (Layout.meshBlock [2, 2, 4] ![[1], [], [], []] c) K
  v : ∀ c : Dev KernelIdeal.nD, m (c, KernelIdeal.main_arg2)
    = Layout.blockN ⟨4, ![512, 16, 8, 128]⟩ ⟨4, ![1024, 16, 8, 128]⟩ (Layout.meshBlock [2, 2, 4] ![[1], [], [], []] c) V
  bt : ∀ c : Dev KernelIdeal.nD, m (c, KernelIdeal.main_arg3) = bt
  ln : ∀ c : Dev KernelIdeal.nD, m (c, KernelIdeal.main_arg4) = ln

variable {m Q K V bt ln}

/-- The keys of the whole cache are real numbers: each page is in some device's half. -/
theorem keys_real (hD : Dealt m Q K V bt ln) (hP : Pre_KernelIdeal_attendable_KernelIdeal m) (p : Fin 1024) (t : Fin 16) (g : Fin 8)
    (e : Fin 128) : ∃ r : ℝ, (K (ix4 p t g e) : EReal) = r := by
  obtain ⟨c, hc⟩ := blk_onto ⟨p.val / 64, by omega⟩
  have hp : p = KernelIdeal.Value.global' (KernelIdeal.Value.blk c) ⟨p.val % 64, by omega⟩ := by
    rw [hc]; apply Fin.ext; show p.val = p.val / 64 * 64 + p.val % 64; omega
  rw [hp, ← KernelIdeal.Value.half_at c K]
  rw [← hD.k c]
  exact k_real _ _ _ _ _ (hP c).2.1 _ t g e

/-- Each device's result is the reference's, entry by entry. -/
theorem entry_eq (hD : Dealt m Q K V bt ln) (hP : Pre_KernelIdeal_attendable_KernelIdeal m)
    (hQ : m' (((0 : Dev ReferenceIdeal.nD).tc : Thread ReferenceIdeal.nD ReferenceIdeal.τ).loc ReferenceIdeal.main_arg0) = Q)
    (hK : m' (((0 : Dev ReferenceIdeal.nD).tc : Thread ReferenceIdeal.nD ReferenceIdeal.τ).loc ReferenceIdeal.main_arg1) = K)
    (hV : m' (((0 : Dev ReferenceIdeal.nD).tc : Thread ReferenceIdeal.nD ReferenceIdeal.τ).loc ReferenceIdeal.main_arg2) = V)
    (hbt : m' (((0 : Dev ReferenceIdeal.nD).tc : Thread ReferenceIdeal.nD ReferenceIdeal.τ).loc ReferenceIdeal.main_arg3) = bt)
    (hln : m' (((0 : Dev ReferenceIdeal.nD).tc : Thread ReferenceIdeal.nD ReferenceIdeal.τ).loc ReferenceIdeal.main_arg4) = ln)
    (c : Dev KernelIdeal.nD) (b g : Fin 8) (d : Fin 128) :
    (show EReal from KernelIdeal.Talk.outC m c (ix4 b 0 g d))
      = (show EReal from (ReferenceIdeal.Value.res_main_v36 m' 0 : FVec Ideal ReferenceIdeal.S8x1x8x128 .f32) (ix4 b 0 g d)) := by
  have hq : ∀ e, ∃ r : ℝ, (Q (ix4 b 0 g e) : EReal) = r := fun e => by
    rw [← hD.q c]; exact q_real _ _ _ _ _ (hP c).1 b 0 g e
  have hk := fun p t e => keys_real hD hP p t g e
  choose q hq using hq
  choose k hk using hk
  have hJ : ∃ j, Attend.Ok (ln (ix1 b)) j := ⟨0, by rw [← hD.ln c]; exact first_ok _ _ _ _ _ (hP c).2.2.1 b⟩
  have row : KernelIdeal.Value.Row m b g d q k (fun p t => V (ix4 p t g d)) (ln (ix1 b)) (ReferenceIdeal.Value.page bt b) :=
    { q_at := fun c e => by rw [KernelIdeal.Value.qC_eq, hD.q]; exact hq e
      k_at := fun c p t e => by
        refine (KernelIdeal.Value.kC_at m c p t g e).trans ?_
        rw [hD.k]
        exact (KernelIdeal.Value.half_at c K p t g e).trans (hk _ t e)
      v_at := fun c p t => by
        refine (KernelIdeal.Value.vC_at m c p t g d).trans ?_
        rw [hD.v]
        exact KernelIdeal.Value.half_at c V p t g d
      n_at := fun c => by
        refine (KernelIdeal.Value.lnC_at m c b).trans ?_
        rw [hD.ln]
      pg_at := fun c j hj => by
        rw [KernelIdeal.Value.btC_eq, hD.bt]
        have h4 := (hP c).2.2.2
        rw [show m ((c.tc : Thread KernelIdeal.nD KernelIdeal.τ).loc KernelIdeal.main_arg3) = bt from hD.bt c,
          show m ((c.tc : Thread KernelIdeal.nD KernelIdeal.τ).loc KernelIdeal.main_arg4) = ln from hD.ln c] at h4
        exact page_eq _ _ _ bt ln h4 b j hj }
  exact (KernelIdeal.Value.out_eq row hJ c).trans
    ((ReferenceIdeal.Value.out_at m' b g d Q K V bt ln hQ hK hV hbt hln).trans (Attend.plain_eq Q K V bt ln b g q k hq hk hJ d)).symm

end

theorem algebraic : Cert.algebraic_KernelIdeal_ReferenceIdeal_pre_attendable_KernelIdeal := by
  intro m ρ m' ρ' hP hA
  have key : ∀ c, KernelIdeal.Talk.outC m c = ReferenceIdeal.Value.res_main_v36 m' 0 := fun c => by
    refine funext fun i => ?_
    have hi : i = ix4 (i 0) 0 (i 2) (i 3) := by
      funext a
      match a with
      | ⟨0, _⟩ => rfl
      | ⟨1, _⟩ => exact Subsingleton.elim (α := Fin 1) _ _
      | ⟨2, _⟩ => rfl
      | ⟨3, _⟩ => rfl
    rw [hi]
    exact entry_eq m' ⟨fun c => (hA c).1, fun c => (hA c).2.1, fun c => (hA c).2.2.1, fun c => (hA c).2.2.2.1, fun c => (hA c).2.2.2.2⟩ hP
      rfl rfl rfl rfl rfl c (i 0) (i 2) (i 3)
  refine ⟨ReferenceIdeal.Value.res_main_v36 m' 0, ?_, ?_⟩
  · exact (θ_run (Cert.KernelIdeal.defs (F := Ideal)) _ _).mono (fun _ h c => ⟨(h.1 c).2.trans (key c), (h.1 c).1⟩)
      (Cert.KernelIdeal.Talk.run_main (F := Ideal) m ρ)
  · exact (θ_run Cert.ReferenceIdeal.defs _ _).mono (fun _ h => h 0) (Cert.ReferenceIdeal.Value.run (F := Ideal) m' ρ')

/-! ## The frames under the precondition -/

theorem frame_kernel_ideal : Cert.quiescent_KernelIdeal_pre_attendable_KernelIdeal := fun m ρ _ =>
  Frames.frame_kernel_ideal m ρ trivial

theorem frame_reference : Cert.quiescent_ReferenceIdeal_pre_attendable_ReferenceIdeal := fun m ρ _ =>
  Frames.frame_reference m ρ trivial

end Cert.Proof.Algebraic

end
-- ==== Proof.lean ====
/-
  The proof of `Cert.Claim`: the facts of the three programs and of the precondition, then the claims one by one, each proved in Proof/.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, Algebraic.facts_kernel,
    Algebraic.facts_reference, Frames.frame_kernel, Frames.frame_kernel_ideal, Algebraic.frame_kernel_ideal, Frames.frame_reference,
    Algebraic.frame_reference, Frames.preserves, Algebraic.algebraic⟩

end Cert.Proof

end
